-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![16384, 1024]⟩ (Layout.meshBlock [2, 2, 4] ![[2], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_arg0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_arg0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S16384x1024 : Shape := ⟨2, ![16384, 1024]⟩
abbrev S4x4x256x1024 : Shape := ⟨4, ![4, 4, 256, 1024]⟩
abbrev S3x4x256x1024 : Shape := ⟨4, ![3, 4, 256, 1024]⟩
abbrev S3x2x256x1024 : Shape := ⟨4, ![3, 2, 256, 1024]⟩
abbrev S12 : Shape := ⟨1, ![12]⟩
abbrev S6 : Shape := ⟨1, ![6]⟩
abbrev S16 : Shape := ⟨1, ![16]⟩
abbrev S5 : Shape := ⟨1, ![5]⟩
abbrev S1 : Shape := ⟨1, ![1]⟩
abbrev S_ : Shape := ⟨0, ![]⟩
abbrev S1x1x256x1024 : Shape := ⟨4, ![1, 1, 256, 1024]⟩
abbrev S256x1024 : Shape := ⟨2, ![256, 1024]⟩

abbrev nBuf : Space → Nat
  | .hbm => 2
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S16384x1024, .bf16⟩
  | .local _ .vmem, ⟨0, _⟩ => ⟨S4x4x256x1024, .bf16⟩
  | .local _ .vmem, ⟨1, _⟩ => ⟨S3x4x256x1024, .bf16⟩
  | .local _ .vmem, ⟨2, _⟩ => ⟨S3x4x256x1024, .bf16⟩
  | .local _ .vmem, ⟨3, _⟩ => ⟨S3x2x256x1024, .bf16⟩
  | .local _ .vmem, ⟨4, _⟩ => ⟨S3x2x256x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 117 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | _ => false

abbrev sig : RefSig :=
  (ofTc nBuf bufTy 1 117 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev barrier0 : Sem sig := 0

abbrev nD : Nat := 16
abbrev τ : Topo := Topo.v7x

variable {F : FTy → Type} [FloatOps F]

abbrev grid0 : Pipeline.Grid := .none

def k0_off1 (d0 : Dev nD) (c0_i32_25 : BitVec 32) : Fin 2 → Nat :=
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32 : BitVec 32 := 1024#32
  let v45 : BitVec 32 := Scalar.muli v10 c1024_i32
  let v46 : BitVec 32 := Scalar.addi v45 c0_i32_25
  let c0_i32_34 : BitVec 32 := 0#32
  ![v46.toNat, 0]
def k0_off2 (d0 : Dev nD) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c4096_i32 : BitVec 32 := 4096#32
  let v73 : BitVec 32 := Scalar.muli v8 c4096_i32
  let c0_i32_53 : BitVec 32 := 0#32
  ![v73.toNat, 0]
def k0_dev1 (d0 : Dev nD) : Nat :=
  let c0_i32_56 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_55 : BitVec 32 := 8#32
  let v78 : BitVec 32 := Scalar.muli v2 c8_i32_55
  let v79 : BitVec 32 := Scalar.addi c0_i32_56 v78
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_57 : BitVec 32 := 4#32
  let v80 : BitVec 32 := Scalar.muli v5 c4_i32_57
  let v81 : BitVec 32 := Scalar.addi v79 v80
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_10 : BitVec 32 := 1#32
  let v21 : BitVec 32 := Scalar.subi v8 c1_i32_10
  let c4_i32_11 : BitVec 32 := 4#32
  let c0_i32 : BitVec 32 := 0#32
  let v22 : BitVec 1 := Scalar.cmpi .eq c4_i32_11 c0_i32
  let c1_i32_12 : BitVec 32 := 1#32
  let v23 : BitVec 32 := Scalar.select v22 c1_i32_12 c4_i32_11
  let v24 : BitVec 32 := Scalar.remsi v21 v23
  let c0_i32_14 : BitVec 32 := 0#32
  let v26 : BitVec 1 := Scalar.cmpi .slt v24 c0_i32_14
  let c0_i32_15 : BitVec 32 := 0#32
  let v27 : BitVec 1 := Scalar.cmpi .slt v23 c0_i32_15
  let v28 : BitVec 1 := Scalar.xori v26 v27
  let c0_i32_13 : BitVec 32 := 0#32
  let v25 : BitVec 1 := Scalar.cmpi .ne v24 c0_i32_13
  let v29 : BitVec 1 := Scalar.andi v28 v25
  let v30 : BitVec 32 := Scalar.addi v24 v23
  let v31 : BitVec 32 := Scalar.select v29 v30 v24
  let c1_i32_58 : BitVec 32 := 1#32
  let v82 : BitVec 32 := Scalar.muli v31 c1_i32_58
  let v83 : BitVec 32 := Scalar.addi v81 v82
  v83.toNat
def k0_dev2 (d0 : Dev nD) : Nat :=
  let c0_i32_61 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_60 : BitVec 32 := 8#32
  let v84 : BitVec 32 := Scalar.muli v2 c8_i32_60
  let v85 : BitVec 32 := Scalar.addi c0_i32_61 v84
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_62 : BitVec 32 := 4#32
  let v86 : BitVec 32 := Scalar.muli v5 c4_i32_62
  let v87 : BitVec 32 := Scalar.addi v85 v86
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_63 : BitVec 32 := 1#32
  let v88 : BitVec 32 := Scalar.muli v42 c1_i32_63
  let v89 : BitVec 32 := Scalar.addi v87 v88
  v89.toNat
def k0_dev3 (d0 : Dev nD) : Nat :=
  let c0_i32_66 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_65 : BitVec 32 := 8#32
  let v90 : BitVec 32 := Scalar.muli v43 c8_i32_65
  let v91 : BitVec 32 := Scalar.addi c0_i32_66 v90
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_67 : BitVec 32 := 4#32
  let v92 : BitVec 32 := Scalar.muli v5 c4_i32_67
  let v93 : BitVec 32 := Scalar.addi v91 v92
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v94 : BitVec 32 := Scalar.muli v8 c1_i32_68
  let v95 : BitVec 32 := Scalar.addi v93 v94
  v95.toNat
def k0_dev4 (d0 : Dev nD) : Nat :=
  let c0_i32_71 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_70 : BitVec 32 := 8#32
  let v96 : BitVec 32 := Scalar.muli v2 c8_i32_70
  let v97 : BitVec 32 := Scalar.addi c0_i32_71 v96
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_72 : BitVec 32 := 4#32
  let v98 : BitVec 32 := Scalar.muli v44 c4_i32_72
  let v99 : BitVec 32 := Scalar.addi v97 v98
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_73 : BitVec 32 := 1#32
  let v100 : BitVec 32 := Scalar.muli v8 c1_i32_73
  let v101 : BitVec 32 := Scalar.addi v99 v100
  v101.toNat
def k0_dev5 (d0 : Dev nD) : Nat :=
  let c0_i32_106 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_105 : BitVec 32 := 8#32
  let v122 : BitVec 32 := Scalar.muli v2 c8_i32_105
  let v123 : BitVec 32 := Scalar.addi c0_i32_106 v122
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_107 : BitVec 32 := 4#32
  let v124 : BitVec 32 := Scalar.muli v5 c4_i32_107
  let v125 : BitVec 32 := Scalar.addi v123 v124
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_108 : BitVec 32 := 1#32
  let v126 : BitVec 32 := Scalar.muli v42 c1_i32_108
  let v127 : BitVec 32 := Scalar.addi v125 v126
  v127.toNat
def k0_dev6 (d0 : Dev nD) : Nat :=
  let c0_i32_120 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_119 : BitVec 32 := 8#32
  let v136 : BitVec 32 := Scalar.muli v2 c8_i32_119
  let v137 : BitVec 32 := Scalar.addi c0_i32_120 v136
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_121 : BitVec 32 := 4#32
  let v138 : BitVec 32 := Scalar.muli v5 c4_i32_121
  let v139 : BitVec 32 := Scalar.addi v137 v138
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_122 : BitVec 32 := 1#32
  let v140 : BitVec 32 := Scalar.muli v42 c1_i32_122
  let v141 : BitVec 32 := Scalar.addi v139 v140
  v141.toNat
def k0_dev7 (d0 : Dev nD) : Nat :=
  let c0_i32_134 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_133 : BitVec 32 := 8#32
  let v150 : BitVec 32 := Scalar.muli v2 c8_i32_133
  let v151 : BitVec 32 := Scalar.addi c0_i32_134 v150
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_135 : BitVec 32 := 4#32
  let v152 : BitVec 32 := Scalar.muli v5 c4_i32_135
  let v153 : BitVec 32 := Scalar.addi v151 v152
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_136 : BitVec 32 := 1#32
  let v154 : BitVec 32 := Scalar.muli v42 c1_i32_136
  let v155 : BitVec 32 := Scalar.addi v153 v154
  v155.toNat
def k0_dev8 (d0 : Dev nD) : Nat :=
  let c0_i32_148 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_147 : BitVec 32 := 8#32
  let v164 : BitVec 32 := Scalar.muli v2 c8_i32_147
  let v165 : BitVec 32 := Scalar.addi c0_i32_148 v164
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_149 : BitVec 32 := 4#32
  let v166 : BitVec 32 := Scalar.muli v5 c4_i32_149
  let v167 : BitVec 32 := Scalar.addi v165 v166
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_150 : BitVec 32 := 1#32
  let v168 : BitVec 32 := Scalar.muli v42 c1_i32_150
  let v169 : BitVec 32 := Scalar.addi v167 v168
  v169.toNat
def k0_dev9 (d0 : Dev nD) : Nat :=
  let c0_i32_176 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_175 : BitVec 32 := 8#32
  let v190 : BitVec 32 := Scalar.muli v2 c8_i32_175
  let v191 : BitVec 32 := Scalar.addi c0_i32_176 v190
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_177 : BitVec 32 := 4#32
  let v192 : BitVec 32 := Scalar.muli v5 c4_i32_177
  let v193 : BitVec 32 := Scalar.addi v191 v192
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_178 : BitVec 32 := 1#32
  let v194 : BitVec 32 := Scalar.muli v42 c1_i32_178
  let v195 : BitVec 32 := Scalar.addi v193 v194
  v195.toNat
def k0_dev10 (d0 : Dev nD) : Nat :=
  let c0_i32_190 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_189 : BitVec 32 := 8#32
  let v204 : BitVec 32 := Scalar.muli v43 c8_i32_189
  let v205 : BitVec 32 := Scalar.addi c0_i32_190 v204
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_191 : BitVec 32 := 4#32
  let v206 : BitVec 32 := Scalar.muli v5 c4_i32_191
  let v207 : BitVec 32 := Scalar.addi v205 v206
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_192 : BitVec 32 := 1#32
  let v208 : BitVec 32 := Scalar.muli v8 c1_i32_192
  let v209 : BitVec 32 := Scalar.addi v207 v208
  v209.toNat
def k0_dev11 (d0 : Dev nD) : Nat :=
  let c0_i32_204 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_203 : BitVec 32 := 8#32
  let v218 : BitVec 32 := Scalar.muli v2 c8_i32_203
  let v219 : BitVec 32 := Scalar.addi c0_i32_204 v218
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_205 : BitVec 32 := 4#32
  let v220 : BitVec 32 := Scalar.muli v44 c4_i32_205
  let v221 : BitVec 32 := Scalar.addi v219 v220
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_206 : BitVec 32 := 1#32
  let v222 : BitVec 32 := Scalar.muli v8 c1_i32_206
  let v223 : BitVec 32 := Scalar.addi v221 v222
  v223.toNat
def k0_dev12 (d0 : Dev nD) : Nat :=
  let c0_i32_231 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_230 : BitVec 32 := 8#32
  let v244 : BitVec 32 := Scalar.muli v2 c8_i32_230
  let v245 : BitVec 32 := Scalar.addi c0_i32_231 v244
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_232 : BitVec 32 := 4#32
  let v246 : BitVec 32 := Scalar.muli v5 c4_i32_232
  let v247 : BitVec 32 := Scalar.addi v245 v246
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_233 : BitVec 32 := 1#32
  let v248 : BitVec 32 := Scalar.muli v42 c1_i32_233
  let v249 : BitVec 32 := Scalar.addi v247 v248
  v249.toNat
def k0_dev13 (d0 : Dev nD) : Nat :=
  let c0_i32_245 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_244 : BitVec 32 := 8#32
  let v258 : BitVec 32 := Scalar.muli v43 c8_i32_244
  let v259 : BitVec 32 := Scalar.addi c0_i32_245 v258
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_246 : BitVec 32 := 4#32
  let v260 : BitVec 32 := Scalar.muli v5 c4_i32_246
  let v261 : BitVec 32 := Scalar.addi v259 v260
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_247 : BitVec 32 := 1#32
  let v262 : BitVec 32 := Scalar.muli v8 c1_i32_247
  let v263 : BitVec 32 := Scalar.addi v261 v262
  v263.toNat
def k0_dev14 (d0 : Dev nD) : Nat :=
  let c0_i32_259 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_258 : BitVec 32 := 8#32
  let v272 : BitVec 32 := Scalar.muli v2 c8_i32_258
  let v273 : BitVec 32 := Scalar.addi c0_i32_259 v272
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_260 : BitVec 32 := 4#32
  let v274 : BitVec 32 := Scalar.muli v44 c4_i32_260
  let v275 : BitVec 32 := Scalar.addi v273 v274
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_261 : BitVec 32 := 1#32
  let v276 : BitVec 32 := Scalar.muli v8 c1_i32_261
  let v277 : BitVec 32 := Scalar.addi v275 v276
  v277.toNat
def k0_dev15 (d0 : Dev nD) : Nat :=
  let c0_i32_286 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_285 : BitVec 32 := 8#32
  let v298 : BitVec 32 := Scalar.muli v2 c8_i32_285
  let v299 : BitVec 32 := Scalar.addi c0_i32_286 v298
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_287 : BitVec 32 := 4#32
  let v300 : BitVec 32 := Scalar.muli v5 c4_i32_287
  let v301 : BitVec 32 := Scalar.addi v299 v300
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_288 : BitVec 32 := 1#32
  let v302 : BitVec 32 := Scalar.muli v42 c1_i32_288
  let v303 : BitVec 32 := Scalar.addi v301 v302
  v303.toNat
def k0_dev16 (d0 : Dev nD) : Nat :=
  let c0_i32_300 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_299 : BitVec 32 := 8#32
  let v312 : BitVec 32 := Scalar.muli v43 c8_i32_299
  let v313 : BitVec 32 := Scalar.addi c0_i32_300 v312
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_301 : BitVec 32 := 4#32
  let v314 : BitVec 32 := Scalar.muli v5 c4_i32_301
  let v315 : BitVec 32 := Scalar.addi v313 v314
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_302 : BitVec 32 := 1#32
  let v316 : BitVec 32 := Scalar.muli v8 c1_i32_302
  let v317 : BitVec 32 := Scalar.addi v315 v316
  v317.toNat
def k0_dev17 (d0 : Dev nD) : Nat :=
  let c0_i32_314 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_313 : BitVec 32 := 8#32
  let v326 : BitVec 32 := Scalar.muli v2 c8_i32_313
  let v327 : BitVec 32 := Scalar.addi c0_i32_314 v326
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_315 : BitVec 32 := 4#32
  let v328 : BitVec 32 := Scalar.muli v44 c4_i32_315
  let v329 : BitVec 32 := Scalar.addi v327 v328
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_316 : BitVec 32 := 1#32
  let v330 : BitVec 32 := Scalar.muli v8 c1_i32_316
  let v331 : BitVec 32 := Scalar.addi v329 v330
  v331.toNat
def k0_dev18 (d0 : Dev nD) : Nat :=
  let c0_i32_341 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_340 : BitVec 32 := 8#32
  let v352 : BitVec 32 := Scalar.muli v2 c8_i32_340
  let v353 : BitVec 32 := Scalar.addi c0_i32_341 v352
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_342 : BitVec 32 := 4#32
  let v354 : BitVec 32 := Scalar.muli v5 c4_i32_342
  let v355 : BitVec 32 := Scalar.addi v353 v354
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_343 : BitVec 32 := 1#32
  let v356 : BitVec 32 := Scalar.muli v42 c1_i32_343
  let v357 : BitVec 32 := Scalar.addi v355 v356
  v357.toNat
def k0_dev19 (d0 : Dev nD) : Nat :=
  let c0_i32_355 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_354 : BitVec 32 := 8#32
  let v366 : BitVec 32 := Scalar.muli v43 c8_i32_354
  let v367 : BitVec 32 := Scalar.addi c0_i32_355 v366
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_356 : BitVec 32 := 4#32
  let v368 : BitVec 32 := Scalar.muli v5 c4_i32_356
  let v369 : BitVec 32 := Scalar.addi v367 v368
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_357 : BitVec 32 := 1#32
  let v370 : BitVec 32 := Scalar.muli v8 c1_i32_357
  let v371 : BitVec 32 := Scalar.addi v369 v370
  v371.toNat
def k0_dev20 (d0 : Dev nD) : Nat :=
  let c0_i32_369 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_368 : BitVec 32 := 8#32
  let v380 : BitVec 32 := Scalar.muli v2 c8_i32_368
  let v381 : BitVec 32 := Scalar.addi c0_i32_369 v380
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_370 : BitVec 32 := 4#32
  let v382 : BitVec 32 := Scalar.muli v44 c4_i32_370
  let v383 : BitVec 32 := Scalar.addi v381 v382
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_371 : BitVec 32 := 1#32
  let v384 : BitVec 32 := Scalar.muli v8 c1_i32_371
  let v385 : BitVec 32 := Scalar.addi v383 v384
  v385.toNat
def k0_dev21 (d0 : Dev nD) : Nat :=
  let c0_i32_397 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_396 : BitVec 32 := 8#32
  let v406 : BitVec 32 := Scalar.muli v2 c8_i32_396
  let v407 : BitVec 32 := Scalar.addi c0_i32_397 v406
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_398 : BitVec 32 := 4#32
  let v408 : BitVec 32 := Scalar.muli v5 c4_i32_398
  let v409 : BitVec 32 := Scalar.addi v407 v408
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_399 : BitVec 32 := 1#32
  let v410 : BitVec 32 := Scalar.muli v42 c1_i32_399
  let v411 : BitVec 32 := Scalar.addi v409 v410
  v411.toNat
def k0_dev22 (d0 : Dev nD) : Nat :=
  let c0_i32_411 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_410 : BitVec 32 := 8#32
  let v420 : BitVec 32 := Scalar.muli v43 c8_i32_410
  let v421 : BitVec 32 := Scalar.addi c0_i32_411 v420
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_412 : BitVec 32 := 4#32
  let v422 : BitVec 32 := Scalar.muli v5 c4_i32_412
  let v423 : BitVec 32 := Scalar.addi v421 v422
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_413 : BitVec 32 := 1#32
  let v424 : BitVec 32 := Scalar.muli v8 c1_i32_413
  let v425 : BitVec 32 := Scalar.addi v423 v424
  v425.toNat
def k0_dev23 (d0 : Dev nD) : Nat :=
  let c0_i32_425 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_424 : BitVec 32 := 8#32
  let v434 : BitVec 32 := Scalar.muli v2 c8_i32_424
  let v435 : BitVec 32 := Scalar.addi c0_i32_425 v434
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_426 : BitVec 32 := 4#32
  let v436 : BitVec 32 := Scalar.muli v44 c4_i32_426
  let v437 : BitVec 32 := Scalar.addi v435 v436
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_427 : BitVec 32 := 1#32
  let v438 : BitVec 32 := Scalar.muli v8 c1_i32_427
  let v439 : BitVec 32 := Scalar.addi v437 v438
  v439.toNat
def k0_dev24 (d0 : Dev nD) : Nat :=
  let c0_i32_452 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_451 : BitVec 32 := 8#32
  let v460 : BitVec 32 := Scalar.muli v2 c8_i32_451
  let v461 : BitVec 32 := Scalar.addi c0_i32_452 v460
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_453 : BitVec 32 := 4#32
  let v462 : BitVec 32 := Scalar.muli v5 c4_i32_453
  let v463 : BitVec 32 := Scalar.addi v461 v462
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_454 : BitVec 32 := 1#32
  let v464 : BitVec 32 := Scalar.muli v42 c1_i32_454
  let v465 : BitVec 32 := Scalar.addi v463 v464
  v465.toNat
def k0_dev25 (d0 : Dev nD) : Nat :=
  let c0_i32_466 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_465 : BitVec 32 := 8#32
  let v474 : BitVec 32 := Scalar.muli v43 c8_i32_465
  let v475 : BitVec 32 := Scalar.addi c0_i32_466 v474
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_467 : BitVec 32 := 4#32
  let v476 : BitVec 32 := Scalar.muli v5 c4_i32_467
  let v477 : BitVec 32 := Scalar.addi v475 v476
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_468 : BitVec 32 := 1#32
  let v478 : BitVec 32 := Scalar.muli v8 c1_i32_468
  let v479 : BitVec 32 := Scalar.addi v477 v478
  v479.toNat
def k0_dev26 (d0 : Dev nD) : Nat :=
  let c0_i32_480 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_479 : BitVec 32 := 8#32
  let v488 : BitVec 32 := Scalar.muli v2 c8_i32_479
  let v489 : BitVec 32 := Scalar.addi c0_i32_480 v488
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_481 : BitVec 32 := 4#32
  let v490 : BitVec 32 := Scalar.muli v44 c4_i32_481
  let v491 : BitVec 32 := Scalar.addi v489 v490
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_482 : BitVec 32 := 1#32
  let v492 : BitVec 32 := Scalar.muli v8 c1_i32_482
  let v493 : BitVec 32 := Scalar.addi v491 v492
  v493.toNat
def k0_dev27 (d0 : Dev nD) : Nat :=
  let c0_i32_507 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_506 : BitVec 32 := 8#32
  let v514 : BitVec 32 := Scalar.muli v2 c8_i32_506
  let v515 : BitVec 32 := Scalar.addi c0_i32_507 v514
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_508 : BitVec 32 := 4#32
  let v516 : BitVec 32 := Scalar.muli v5 c4_i32_508
  let v517 : BitVec 32 := Scalar.addi v515 v516
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_509 : BitVec 32 := 1#32
  let v518 : BitVec 32 := Scalar.muli v42 c1_i32_509
  let v519 : BitVec 32 := Scalar.addi v517 v518
  v519.toNat
def k0_dev28 (d0 : Dev nD) : Nat :=
  let c0_i32_521 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_520 : BitVec 32 := 8#32
  let v528 : BitVec 32 := Scalar.muli v43 c8_i32_520
  let v529 : BitVec 32 := Scalar.addi c0_i32_521 v528
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_522 : BitVec 32 := 4#32
  let v530 : BitVec 32 := Scalar.muli v5 c4_i32_522
  let v531 : BitVec 32 := Scalar.addi v529 v530
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_523 : BitVec 32 := 1#32
  let v532 : BitVec 32 := Scalar.muli v8 c1_i32_523
  let v533 : BitVec 32 := Scalar.addi v531 v532
  v533.toNat
def k0_dev29 (d0 : Dev nD) : Nat :=
  let c0_i32_535 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_534 : BitVec 32 := 8#32
  let v542 : BitVec 32 := Scalar.muli v2 c8_i32_534
  let v543 : BitVec 32 := Scalar.addi c0_i32_535 v542
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_536 : BitVec 32 := 4#32
  let v544 : BitVec 32 := Scalar.muli v44 c4_i32_536
  let v545 : BitVec 32 := Scalar.addi v543 v544
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_537 : BitVec 32 := 1#32
  let v546 : BitVec 32 := Scalar.muli v8 c1_i32_537
  let v547 : BitVec 32 := Scalar.addi v545 v546
  v547.toNat
def k0_dev30 (d0 : Dev nD) : Nat :=
  let c0_i32_562 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_561 : BitVec 32 := 8#32
  let v568 : BitVec 32 := Scalar.muli v2 c8_i32_561
  let v569 : BitVec 32 := Scalar.addi c0_i32_562 v568
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_563 : BitVec 32 := 4#32
  let v570 : BitVec 32 := Scalar.muli v5 c4_i32_563
  let v571 : BitVec 32 := Scalar.addi v569 v570
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_16 : BitVec 32 := 1#32
  let v32 : BitVec 32 := Scalar.addi v8 c1_i32_16
  let c4_i32_17 : BitVec 32 := 4#32
  let c0_i32_18 : BitVec 32 := 0#32
  let v33 : BitVec 1 := Scalar.cmpi .eq c4_i32_17 c0_i32_18
  let c1_i32_19 : BitVec 32 := 1#32
  let v34 : BitVec 32 := Scalar.select v33 c1_i32_19 c4_i32_17
  let v35 : BitVec 32 := Scalar.remsi v32 v34
  let c0_i32_21 : BitVec 32 := 0#32
  let v37 : BitVec 1 := Scalar.cmpi .slt v35 c0_i32_21
  let c0_i32_22 : BitVec 32 := 0#32
  let v38 : BitVec 1 := Scalar.cmpi .slt v34 c0_i32_22
  let v39 : BitVec 1 := Scalar.xori v37 v38
  let c0_i32_20 : BitVec 32 := 0#32
  let v36 : BitVec 1 := Scalar.cmpi .ne v35 c0_i32_20
  let v40 : BitVec 1 := Scalar.andi v39 v36
  let v41 : BitVec 32 := Scalar.addi v35 v34
  let v42 : BitVec 32 := Scalar.select v40 v41 v35
  let c1_i32_564 : BitVec 32 := 1#32
  let v572 : BitVec 32 := Scalar.muli v42 c1_i32_564
  let v573 : BitVec 32 := Scalar.addi v571 v572
  v573.toNat
def k0_dev31 (d0 : Dev nD) : Nat :=
  let c0_i32_576 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_575 : BitVec 32 := 8#32
  let v582 : BitVec 32 := Scalar.muli v43 c8_i32_575
  let v583 : BitVec 32 := Scalar.addi c0_i32_576 v582
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_577 : BitVec 32 := 4#32
  let v584 : BitVec 32 := Scalar.muli v5 c4_i32_577
  let v585 : BitVec 32 := Scalar.addi v583 v584
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_578 : BitVec 32 := 1#32
  let v586 : BitVec 32 := Scalar.muli v8 c1_i32_578
  let v587 : BitVec 32 := Scalar.addi v585 v586
  v587.toNat
def k0_dev32 (d0 : Dev nD) : Nat :=
  let c0_i32_590 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_589 : BitVec 32 := 8#32
  let v596 : BitVec 32 := Scalar.muli v2 c8_i32_589
  let v597 : BitVec 32 := Scalar.addi c0_i32_590 v596
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_591 : BitVec 32 := 4#32
  let v598 : BitVec 32 := Scalar.muli v44 c4_i32_591
  let v599 : BitVec 32 := Scalar.addi v597 v598
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_592 : BitVec 32 := 1#32
  let v600 : BitVec 32 := Scalar.muli v8 c1_i32_592
  let v601 : BitVec 32 := Scalar.addi v599 v600
  v601.toNat
def k0_dev33 (d0 : Dev nD) : Nat :=
  let c0_i32_618 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_617 : BitVec 32 := 8#32
  let v622 : BitVec 32 := Scalar.muli v2 c8_i32_617
  let v623 : BitVec 32 := Scalar.addi c0_i32_618 v622
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_619 : BitVec 32 := 4#32
  let v624 : BitVec 32 := Scalar.muli v44 c4_i32_619
  let v625 : BitVec 32 := Scalar.addi v623 v624
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_620 : BitVec 32 := 1#32
  let v626 : BitVec 32 := Scalar.muli v8 c1_i32_620
  let v627 : BitVec 32 := Scalar.addi v625 v626
  v627.toNat
def k0_dev34 (d0 : Dev nD) : Nat :=
  let c0_i32_646 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_645 : BitVec 32 := 8#32
  let v648 : BitVec 32 := Scalar.muli v2 c8_i32_645
  let v649 : BitVec 32 := Scalar.addi c0_i32_646 v648
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_647 : BitVec 32 := 4#32
  let v650 : BitVec 32 := Scalar.muli v44 c4_i32_647
  let v651 : BitVec 32 := Scalar.addi v649 v650
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_648 : BitVec 32 := 1#32
  let v652 : BitVec 32 := Scalar.muli v8 c1_i32_648
  let v653 : BitVec 32 := Scalar.addi v651 v652
  v653.toNat
def k0_dev35 (d0 : Dev nD) : Nat :=
  let c0_i32_674 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_673 : BitVec 32 := 8#32
  let v674 : BitVec 32 := Scalar.muli v43 c8_i32_673
  let v675 : BitVec 32 := Scalar.addi c0_i32_674 v674
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_675 : BitVec 32 := 4#32
  let v676 : BitVec 32 := Scalar.muli v5 c4_i32_675
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_676 : BitVec 32 := 1#32
  let v678 : BitVec 32 := Scalar.muli v8 c1_i32_676
  let v679 : BitVec 32 := Scalar.addi v677 v678
  v679.toNat
def k0_dev36 (d0 : Dev nD) : Nat :=
  let c0_i32_702 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_701 : BitVec 32 := 8#32
  let v700 : BitVec 32 := Scalar.muli v43 c8_i32_701
  let v701 : BitVec 32 := Scalar.addi c0_i32_702 v700
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_703 : BitVec 32 := 4#32
  let v702 : BitVec 32 := Scalar.muli v5 c4_i32_703
  let v703 : BitVec 32 := Scalar.addi v701 v702
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_704 : BitVec 32 := 1#32
  let v704 : BitVec 32 := Scalar.muli v8 c1_i32_704
  let v705 : BitVec 32 := Scalar.addi v703 v704
  v705.toNat
def k0_off3 (d0 : Dev nD) (c1_i32_823 : BitVec 32) (c0_i32_832 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v813 : BitVec 32 := Scalar.subi v8 c1_i32_823
  let c4_i32_824 : BitVec 32 := 4#32
  let c0_i32_825 : BitVec 32 := 0#32
  let v814 : BitVec 1 := Scalar.cmpi .eq c4_i32_824 c0_i32_825
  let c1_i32_826 : BitVec 32 := 1#32
  let v815 : BitVec 32 := Scalar.select v814 c1_i32_826 c4_i32_824
  let v816 : BitVec 32 := Scalar.remsi v813 v815
  let c0_i32_828 : BitVec 32 := 0#32
  let v818 : BitVec 1 := Scalar.cmpi .slt v816 c0_i32_828
  let c0_i32_829 : BitVec 32 := 0#32
  let v819 : BitVec 1 := Scalar.cmpi .slt v815 c0_i32_829
  let v820 : BitVec 1 := Scalar.xori v818 v819
  let c0_i32_827 : BitVec 32 := 0#32
  let v817 : BitVec 1 := Scalar.cmpi .ne v816 c0_i32_827
  let v821 : BitVec 1 := Scalar.andi v820 v817
  let v822 : BitVec 32 := Scalar.addi v816 v815
  let v823 : BitVec 32 := Scalar.select v821 v822 v816
  let c4096_i32_830 : BitVec 32 := 4096#32
  let v824 : BitVec 32 := Scalar.muli v823 c4096_i32_830
  let c2_i32_2 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v9 : BitVec 32 := Scalar.muli c2_i32_2 v2
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v10 : BitVec 32 := Scalar.addi v9 v5
  let c1024_i32_831 : BitVec 32 := 1024#32
  let v825 : BitVec 32 := Scalar.muli v10 c1024_i32_831
  let v826 : BitVec 32 := Scalar.addi v824 v825
  let v827 : BitVec 32 := Scalar.addi v826 c0_i32_832
  let c0_i32_868 : BitVec 32 := 0#32
  ![v827.toNat, 0]
def k0_off4 (d0 : Dev nD) (c1_i32_823 : BitVec 32) (c0_i32_834 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v813 : BitVec 32 := Scalar.subi v8 c1_i32_823
  let c4_i32_824 : BitVec 32 := 4#32
  let c0_i32_825 : BitVec 32 := 0#32
  let v814 : BitVec 1 := Scalar.cmpi .eq c4_i32_824 c0_i32_825
  let c1_i32_826 : BitVec 32 := 1#32
  let v815 : BitVec 32 := Scalar.select v814 c1_i32_826 c4_i32_824
  let v816 : BitVec 32 := Scalar.remsi v813 v815
  let c0_i32_828 : BitVec 32 := 0#32
  let v818 : BitVec 1 := Scalar.cmpi .slt v816 c0_i32_828
  let c0_i32_829 : BitVec 32 := 0#32
  let v819 : BitVec 1 := Scalar.cmpi .slt v815 c0_i32_829
  let v820 : BitVec 1 := Scalar.xori v818 v819
  let c0_i32_827 : BitVec 32 := 0#32
  let v817 : BitVec 1 := Scalar.cmpi .ne v816 c0_i32_827
  let v821 : BitVec 1 := Scalar.andi v820 v817
  let v822 : BitVec 32 := Scalar.addi v816 v815
  let v823 : BitVec 32 := Scalar.select v821 v822 v816
  let c4096_i32_830 : BitVec 32 := 4096#32
  let v824 : BitVec 32 := Scalar.muli v823 c4096_i32_830
  let c2_i32_4 : BitVec 32 := 2#32
  let c1_i32_3 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v11 : BitVec 32 := Scalar.subi c1_i32_3 v2
  let v12 : BitVec 32 := Scalar.muli c2_i32_4 v11
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v13 : BitVec 32 := Scalar.addi v12 v5
  let c1024_i32_833 : BitVec 32 := 1024#32
  let v828 : BitVec 32 := Scalar.muli v13 c1024_i32_833
  let v829 : BitVec 32 := Scalar.addi v824 v828
  let v830 : BitVec 32 := Scalar.addi v829 c0_i32_834
  let c0_i32_874 : BitVec 32 := 0#32
  ![v830.toNat, 0]
def k0_off5 (d0 : Dev nD) (c1_i32_823 : BitVec 32) (c0_i32_836 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v813 : BitVec 32 := Scalar.subi v8 c1_i32_823
  let c4_i32_824 : BitVec 32 := 4#32
  let c0_i32_825 : BitVec 32 := 0#32
  let v814 : BitVec 1 := Scalar.cmpi .eq c4_i32_824 c0_i32_825
  let c1_i32_826 : BitVec 32 := 1#32
  let v815 : BitVec 32 := Scalar.select v814 c1_i32_826 c4_i32_824
  let v816 : BitVec 32 := Scalar.remsi v813 v815
  let c0_i32_828 : BitVec 32 := 0#32
  let v818 : BitVec 1 := Scalar.cmpi .slt v816 c0_i32_828
  let c0_i32_829 : BitVec 32 := 0#32
  let v819 : BitVec 1 := Scalar.cmpi .slt v815 c0_i32_829
  let v820 : BitVec 1 := Scalar.xori v818 v819
  let c0_i32_827 : BitVec 32 := 0#32
  let v817 : BitVec 1 := Scalar.cmpi .ne v816 c0_i32_827
  let v821 : BitVec 1 := Scalar.andi v820 v817
  let v822 : BitVec 32 := Scalar.addi v816 v815
  let v823 : BitVec 32 := Scalar.select v821 v822 v816
  let c4096_i32_830 : BitVec 32 := 4096#32
  let v824 : BitVec 32 := Scalar.muli v823 c4096_i32_830
  let c2_i32_5 : BitVec 32 := 2#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v14 : BitVec 32 := Scalar.muli c2_i32_5 v2
  let c1_i32_6 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v15 : BitVec 32 := Scalar.subi c1_i32_6 v5
  let v16 : BitVec 32 := Scalar.addi v14 v15
  let c1024_i32_835 : BitVec 32 := 1024#32
  let v831 : BitVec 32 := Scalar.muli v16 c1024_i32_835
  let v832 : BitVec 32 := Scalar.addi v824 v831
  let v833 : BitVec 32 := Scalar.addi v832 c0_i32_836
  let c0_i32_880 : BitVec 32 := 0#32
  ![v833.toNat, 0]
def k0_off6 (d0 : Dev nD) (c1_i32_823 : BitVec 32) (c0_i32_856 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v813 : BitVec 32 := Scalar.subi v8 c1_i32_823
  let c4_i32_824 : BitVec 32 := 4#32
  let c0_i32_825 : BitVec 32 := 0#32
  let v814 : BitVec 1 := Scalar.cmpi .eq c4_i32_824 c0_i32_825
  let c1_i32_826 : BitVec 32 := 1#32
  let v815 : BitVec 32 := Scalar.select v814 c1_i32_826 c4_i32_824
  let v816 : BitVec 32 := Scalar.remsi v813 v815
  let c0_i32_828 : BitVec 32 := 0#32
  let v818 : BitVec 1 := Scalar.cmpi .slt v816 c0_i32_828
  let c0_i32_829 : BitVec 32 := 0#32
  let v819 : BitVec 1 := Scalar.cmpi .slt v815 c0_i32_829
  let v820 : BitVec 1 := Scalar.xori v818 v819
  let c0_i32_827 : BitVec 32 := 0#32
  let v817 : BitVec 1 := Scalar.cmpi .ne v816 c0_i32_827
  let v821 : BitVec 1 := Scalar.andi v820 v817
  let v822 : BitVec 32 := Scalar.addi v816 v815
  let v823 : BitVec 32 := Scalar.select v821 v822 v816
  let c4096_i32_830 : BitVec 32 := 4096#32
  let v824 : BitVec 32 := Scalar.muli v823 c4096_i32_830
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32_855 : BitVec 32 := 1024#32
  let v861 : BitVec 32 := Scalar.muli v20 c1024_i32_855
  let v862 : BitVec 32 := Scalar.addi v824 v861
  let v863 : BitVec 32 := Scalar.addi v862 c0_i32_856
  let c0_i32_939 : BitVec 32 := 0#32
  ![v863.toNat, 0]
def k0_off7 (d0 : Dev nD) (c1_i32_823 : BitVec 32) (c0_i32_859 : BitVec 32) : Fin 2 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v813 : BitVec 32 := Scalar.subi v8 c1_i32_823
  let c4_i32_824 : BitVec 32 := 4#32
  let c0_i32_825 : BitVec 32 := 0#32
  let v814 : BitVec 1 := Scalar.cmpi .eq c4_i32_824 c0_i32_825
  let c1_i32_826 : BitVec 32 := 1#32
  let v815 : BitVec 32 := Scalar.select v814 c1_i32_826 c4_i32_824
  let v816 : BitVec 32 := Scalar.remsi v813 v815
  let c0_i32_828 : BitVec 32 := 0#32
  let v818 : BitVec 1 := Scalar.cmpi .slt v816 c0_i32_828
  let c0_i32_829 : BitVec 32 := 0#32
  let v819 : BitVec 1 := Scalar.cmpi .slt v815 c0_i32_829
  let v820 : BitVec 1 := Scalar.xori v818 v819
  let c0_i32_827 : BitVec 32 := 0#32
  let v817 : BitVec 1 := Scalar.cmpi .ne v816 c0_i32_827
  let v821 : BitVec 1 := Scalar.andi v820 v817
  let v822 : BitVec 32 := Scalar.addi v816 v815
  let v823 : BitVec 32 := Scalar.select v821 v822 v816
  let c4096_i32_830 : BitVec 32 := 4096#32
  let v824 : BitVec 32 := Scalar.muli v823 c4096_i32_830
  let c2_i32_8 : BitVec 32 := 2#32
  let c1_i32_7 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v17 : BitVec 32 := Scalar.subi c1_i32_7 v2
  let v18 : BitVec 32 := Scalar.muli c2_i32_8 v17
  let c1_i32_9 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v19 : BitVec 32 := Scalar.subi c1_i32_9 v5
  let v20 : BitVec 32 := Scalar.addi v18 v19
  let c1024_i32_857 : BitVec 32 := 1024#32
  let v864 : BitVec 32 := Scalar.muli v20 c1024_i32_857
  let v865 : BitVec 32 := Scalar.addi v824 v864
  let c512_i32_858 : BitVec 32 := 512#32
  let v866 : BitVec 32 := Scalar.addi v865 c512_i32_858
  let v867 : BitVec 32 := Scalar.addi v866 c0_i32_859
  let c0_i32_944 : BitVec 32 := 0#32
  ![v867.toNat, 0]
def k0_dev37 (d0 : Dev nD) : Nat :=
  let c0_i32_978 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_977 : BitVec 32 := 8#32
  let v967 : BitVec 32 := Scalar.muli v43 c8_i32_977
  let v968 : BitVec 32 := Scalar.addi c0_i32_978 v967
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_979 : BitVec 32 := 4#32
  let v969 : BitVec 32 := Scalar.muli v5 c4_i32_979
  let v970 : BitVec 32 := Scalar.addi v968 v969
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_980 : BitVec 32 := 1#32
  let v971 : BitVec 32 := Scalar.muli v8 c1_i32_980
  let v972 : BitVec 32 := Scalar.addi v970 v971
  v972.toNat
def k0_dev38 (d0 : Dev nD) : Nat :=
  let c0_i32_992 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_991 : BitVec 32 := 8#32
  let v981 : BitVec 32 := Scalar.muli v2 c8_i32_991
  let v982 : BitVec 32 := Scalar.addi c0_i32_992 v981
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_993 : BitVec 32 := 4#32
  let v983 : BitVec 32 := Scalar.muli v44 c4_i32_993
  let v984 : BitVec 32 := Scalar.addi v982 v983
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_994 : BitVec 32 := 1#32
  let v985 : BitVec 32 := Scalar.muli v8 c1_i32_994
  let v986 : BitVec 32 := Scalar.addi v984 v985
  v986.toNat
def k0_dev39 (d0 : Dev nD) : Nat :=
  let c0_i32_1020 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1019 : BitVec 32 := 8#32
  let v1007 : BitVec 32 := Scalar.muli v43 c8_i32_1019
  let v1008 : BitVec 32 := Scalar.addi c0_i32_1020 v1007
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1021 : BitVec 32 := 4#32
  let v1009 : BitVec 32 := Scalar.muli v5 c4_i32_1021
  let v1010 : BitVec 32 := Scalar.addi v1008 v1009
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1022 : BitVec 32 := 1#32
  let v1011 : BitVec 32 := Scalar.muli v8 c1_i32_1022
  let v1012 : BitVec 32 := Scalar.addi v1010 v1011
  v1012.toNat
def k0_dev40 (d0 : Dev nD) : Nat :=
  let c0_i32_1034 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1033 : BitVec 32 := 8#32
  let v1021 : BitVec 32 := Scalar.muli v2 c8_i32_1033
  let v1022 : BitVec 32 := Scalar.addi c0_i32_1034 v1021
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1035 : BitVec 32 := 4#32
  let v1023 : BitVec 32 := Scalar.muli v44 c4_i32_1035
  let v1024 : BitVec 32 := Scalar.addi v1022 v1023
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1036 : BitVec 32 := 1#32
  let v1025 : BitVec 32 := Scalar.muli v8 c1_i32_1036
  let v1026 : BitVec 32 := Scalar.addi v1024 v1025
  v1026.toNat
def k0_dev41 (d0 : Dev nD) : Nat :=
  let c0_i32_1062 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1061 : BitVec 32 := 8#32
  let v1047 : BitVec 32 := Scalar.muli v43 c8_i32_1061
  let v1048 : BitVec 32 := Scalar.addi c0_i32_1062 v1047
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1063 : BitVec 32 := 4#32
  let v1049 : BitVec 32 := Scalar.muli v5 c4_i32_1063
  let v1050 : BitVec 32 := Scalar.addi v1048 v1049
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1064 : BitVec 32 := 1#32
  let v1051 : BitVec 32 := Scalar.muli v8 c1_i32_1064
  let v1052 : BitVec 32 := Scalar.addi v1050 v1051
  v1052.toNat
def k0_dev42 (d0 : Dev nD) : Nat :=
  let c0_i32_1076 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1075 : BitVec 32 := 8#32
  let v1061 : BitVec 32 := Scalar.muli v2 c8_i32_1075
  let v1062 : BitVec 32 := Scalar.addi c0_i32_1076 v1061
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1077 : BitVec 32 := 4#32
  let v1063 : BitVec 32 := Scalar.muli v44 c4_i32_1077
  let v1064 : BitVec 32 := Scalar.addi v1062 v1063
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1078 : BitVec 32 := 1#32
  let v1065 : BitVec 32 := Scalar.muli v8 c1_i32_1078
  let v1066 : BitVec 32 := Scalar.addi v1064 v1065
  v1066.toNat
def k0_dev43 (d0 : Dev nD) : Nat :=
  let c0_i32_1104 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1103 : BitVec 32 := 8#32
  let v1087 : BitVec 32 := Scalar.muli v43 c8_i32_1103
  let v1088 : BitVec 32 := Scalar.addi c0_i32_1104 v1087
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1105 : BitVec 32 := 4#32
  let v1089 : BitVec 32 := Scalar.muli v5 c4_i32_1105
  let v1090 : BitVec 32 := Scalar.addi v1088 v1089
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1106 : BitVec 32 := 1#32
  let v1091 : BitVec 32 := Scalar.muli v8 c1_i32_1106
  let v1092 : BitVec 32 := Scalar.addi v1090 v1091
  v1092.toNat
def k0_dev44 (d0 : Dev nD) : Nat :=
  let c0_i32_1118 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1117 : BitVec 32 := 8#32
  let v1101 : BitVec 32 := Scalar.muli v2 c8_i32_1117
  let v1102 : BitVec 32 := Scalar.addi c0_i32_1118 v1101
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1119 : BitVec 32 := 4#32
  let v1103 : BitVec 32 := Scalar.muli v44 c4_i32_1119
  let v1104 : BitVec 32 := Scalar.addi v1102 v1103
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1120 : BitVec 32 := 1#32
  let v1105 : BitVec 32 := Scalar.muli v8 c1_i32_1120
  let v1106 : BitVec 32 := Scalar.addi v1104 v1105
  v1106.toNat
def k0_dev45 (d0 : Dev nD) : Nat :=
  let c0_i32_1146 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1145 : BitVec 32 := 8#32
  let v1127 : BitVec 32 := Scalar.muli v2 c8_i32_1145
  let v1128 : BitVec 32 := Scalar.addi c0_i32_1146 v1127
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1147 : BitVec 32 := 4#32
  let v1129 : BitVec 32 := Scalar.muli v44 c4_i32_1147
  let v1130 : BitVec 32 := Scalar.addi v1128 v1129
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1148 : BitVec 32 := 1#32
  let v1131 : BitVec 32 := Scalar.muli v8 c1_i32_1148
  let v1132 : BitVec 32 := Scalar.addi v1130 v1131
  v1132.toNat
def k0_dev46 (d0 : Dev nD) : Nat :=
  let c0_i32_1174 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1173 : BitVec 32 := 8#32
  let v1153 : BitVec 32 := Scalar.muli v2 c8_i32_1173
  let v1154 : BitVec 32 := Scalar.addi c0_i32_1174 v1153
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1175 : BitVec 32 := 4#32
  let v1155 : BitVec 32 := Scalar.muli v44 c4_i32_1175
  let v1156 : BitVec 32 := Scalar.addi v1154 v1155
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1176 : BitVec 32 := 1#32
  let v1157 : BitVec 32 := Scalar.muli v8 c1_i32_1176
  let v1158 : BitVec 32 := Scalar.addi v1156 v1157
  v1158.toNat
def k0_dev47 (d0 : Dev nD) : Nat :=
  let c0_i32_1202 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1201 : BitVec 32 := 8#32
  let v1179 : BitVec 32 := Scalar.muli v43 c8_i32_1201
  let v1180 : BitVec 32 := Scalar.addi c0_i32_1202 v1179
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1203 : BitVec 32 := 4#32
  let v1181 : BitVec 32 := Scalar.muli v5 c4_i32_1203
  let v1182 : BitVec 32 := Scalar.addi v1180 v1181
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1204 : BitVec 32 := 1#32
  let v1183 : BitVec 32 := Scalar.muli v8 c1_i32_1204
  let v1184 : BitVec 32 := Scalar.addi v1182 v1183
  v1184.toNat
def k0_dev48 (d0 : Dev nD) : Nat :=
  let c0_i32_1230 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1229 : BitVec 32 := 8#32
  let v1205 : BitVec 32 := Scalar.muli v43 c8_i32_1229
  let v1206 : BitVec 32 := Scalar.addi c0_i32_1230 v1205
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1231 : BitVec 32 := 4#32
  let v1207 : BitVec 32 := Scalar.muli v5 c4_i32_1231
  let v1208 : BitVec 32 := Scalar.addi v1206 v1207
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1232 : BitVec 32 := 1#32
  let v1209 : BitVec 32 := Scalar.muli v8 c1_i32_1232
  let v1210 : BitVec 32 := Scalar.addi v1208 v1209
  v1210.toNat
def k0_dev49 (d0 : Dev nD) : Nat :=
  let c0_i32_1604 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1603 : BitVec 32 := 8#32
  let v1549 : BitVec 32 := Scalar.muli v2 c8_i32_1603
  let v1550 : BitVec 32 := Scalar.addi c0_i32_1604 v1549
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1605 : BitVec 32 := 4#32
  let v1551 : BitVec 32 := Scalar.muli v44 c4_i32_1605
  let v1552 : BitVec 32 := Scalar.addi v1550 v1551
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1606 : BitVec 32 := 1#32
  let v1553 : BitVec 32 := Scalar.muli v8 c1_i32_1606
  let v1554 : BitVec 32 := Scalar.addi v1552 v1553
  v1554.toNat
def k0_dev50 (d0 : Dev nD) : Nat :=
  let c0_i32_1632 : BitVec 32 := 0#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let c8_i32_1631 : BitVec 32 := 8#32
  let v1575 : BitVec 32 := Scalar.muli v2 c8_i32_1631
  let v1576 : BitVec 32 := Scalar.addi c0_i32_1632 v1575
  let c1_i32_24 : BitVec 32 := 1#32
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let v44 : BitVec 32 := Scalar.subi c1_i32_24 v5
  let c4_i32_1633 : BitVec 32 := 4#32
  let v1577 : BitVec 32 := Scalar.muli v44 c4_i32_1633
  let v1578 : BitVec 32 := Scalar.addi v1576 v1577
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1634 : BitVec 32 := 1#32
  let v1579 : BitVec 32 := Scalar.muli v8 c1_i32_1634
  let v1580 : BitVec 32 := Scalar.addi v1578 v1579
  v1580.toNat
def k0_dev51 (d0 : Dev nD) : Nat :=
  let c0_i32_1660 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1659 : BitVec 32 := 8#32
  let v1601 : BitVec 32 := Scalar.muli v43 c8_i32_1659
  let v1602 : BitVec 32 := Scalar.addi c0_i32_1660 v1601
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1661 : BitVec 32 := 4#32
  let v1603 : BitVec 32 := Scalar.muli v5 c4_i32_1661
  let v1604 : BitVec 32 := Scalar.addi v1602 v1603
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1662 : BitVec 32 := 1#32
  let v1605 : BitVec 32 := Scalar.muli v8 c1_i32_1662
  let v1606 : BitVec 32 := Scalar.addi v1604 v1605
  v1606.toNat
def k0_dev52 (d0 : Dev nD) : Nat :=
  let c0_i32_1688 : BitVec 32 := 0#32
  let c1_i32_23 : BitVec 32 := 1#32
  let v0 : BitVec 32 := Dev.word d0
  let c8_i32 : BitVec 32 := 8#32
  let v1 : BitVec 32 := Scalar.divsi v0 c8_i32
  let c2_i32 : BitVec 32 := 2#32
  let v2 : BitVec 32 := Scalar.remsi v1 c2_i32
  let v43 : BitVec 32 := Scalar.subi c1_i32_23 v2
  let c8_i32_1687 : BitVec 32 := 8#32
  let v1627 : BitVec 32 := Scalar.muli v43 c8_i32_1687
  let v1628 : BitVec 32 := Scalar.addi c0_i32_1688 v1627
  let v3 : BitVec 32 := Dev.word d0
  let c4_i32 : BitVec 32 := 4#32
  let v4 : BitVec 32 := Scalar.divsi v3 c4_i32
  let c2_i32_0 : BitVec 32 := 2#32
  let v5 : BitVec 32 := Scalar.remsi v4 c2_i32_0
  let c4_i32_1689 : BitVec 32 := 4#32
  let v1629 : BitVec 32 := Scalar.muli v5 c4_i32_1689
  let v1630 : BitVec 32 := Scalar.addi v1628 v1629
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1690 : BitVec 32 := 1#32
  let v1631 : BitVec 32 := Scalar.muli v8 c1_i32_1690
  let v1632 : BitVec 32 := Scalar.addi v1630 v1631
  v1632.toNat
-- ==== ReferenceIdeal.lean ====
abbrev S16384x1024 : Shape := ⟨2, ![16384, 1024]⟩

abbrev nBuf : Space → Nat
  | .hbm => 1
  | .vmem => 0
  | .smem => 0
  | _ => 0

abbrev bufTy : (tb : Table) → Fin (tcTables nBuf tb) → BufTy
  | .hbm, ⟨0, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩

abbrev nD : Nat := 1
abbrev τ : Topo := Topo.v7x

variable {F : FTy → Type} [FloatOps F]
-- ==== Proof.Program.lean ====
/-
  The kernel's body as a LIST OF STEPS.

  The body makes 255 memory operations. They are of eleven kinds, and within a kind they differ only in which block they
  name. So here a step is a value (`Op`), `Op.prog` is the operation a step stands for, `steps` lists the steps in the
  body's order, and `body_eq` says that the printed body is the list run from the front. Everything after this file
  reasons about one step at a symbolic block.

  Blocks. Each device keeps 52 blocks of 256 rows in five scratch buffers (`Slot`): its own quarter of its plane and the
  same quarter of the three other planes (`qm`), the quarters of its `x` and `y` neighbours (`qx`, `qy`) and the two halves of
  the quarter diagonally across (`dx`, `dy`). 48 of them are landed in by a copy from another device (`Xfer`).
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Pipeline.Regions
public import Idealize.ShloMosaic.Lib.Tactic
public import Mathlib.Tactic.DeriveFintype

@[expose] public section

noncomputable section

namespace Cert.Gather

open Cert.KernelIdeal Cert.KernelIdeal.Gen

open Idealize.ShloMosaic
open Idealize.ShloMosaic.TcCoe
open Idealize.SL Idealize.SL.RA Idealize.SL.BI
open Idealize.SL.Sem

variable {F : FTy → Type} [FloatOps F]

/-! ## Blocks and transfers -/

/-- A block of 256 rows in the scratch of a device. -/
inductive Slot where
  | qm (r : Fin 4) (j : Fin 4)
  | qx (s : Fin 3) (j : Fin 4)
  | qy (s : Fin 3) (j : Fin 4)
  | dx (s : Fin 3) (k : Fin 2)
  | dy (s : Fin 3) (k : Fin 2)
  deriving DecidableEq, Fintype

/-- A copy to another device: along the ring of planes (`z`), to the `x` or `y` neighbour (`x`, `y`), and the relays of a
    neighbour's block to the `x` or `y` neighbour (`rx`, `ry`). -/
inductive Xfer where
  | z (r : Fin 3) (j : Fin 4)
  | x (s : Fin 3) (j : Fin 4)
  | y (s : Fin 3) (j : Fin 4)
  | rx (s : Fin 3) (k : Fin 2)
  | ry (s : Fin 3) (k : Fin 2)
  deriving DecidableEq, Fintype

/-- The first and the second half of four blocks. -/
abbrev lo (k : Fin 2) : Fin 4 := ⟨k.val, by omega⟩
abbrev hi (k : Fin 2) : Fin 4 := ⟨k.val + 2, by omega⟩

/-- The block a copy reads, -/
def Xfer.src : Xfer → Slot
  | .z r j => .qm r.castSucc j
  | .x s j => .qm s.succ j
  | .y s j => .qm s.succ j
  | .rx s k => .qy s (lo k)
  | .ry s k => .qx s (hi k)

/-- and the block of the peer it writes. -/
def Xfer.dst : Xfer → Slot
  | .z r j => .qm r.succ j
  | .x s j => .qx s j
  | .y s j => .qy s j
  | .rx s k => .dx s k
  | .ry s k => .dy s k

/-! ## The memrefs and semaphores they name -/

theorem inb_qm : ∀ (r j : Fin 4), ∀ a, (![r.val, j.val, 0, 0] : Fin 4 → Nat) a + S1x1x256x1024.size a ≤ S4x4x256x1024.size a := by decide +kernel
theorem words_qm : ∀ (r j : Fin 4), (Rect.unit (s := S4x4x256x1024) ![r.val, j.val, 0, 0] S1x1x256x1024.size (inb_qm r j)).WholeWords (EltTy.packing .bf16) := by decide +kernel
theorem inb_q : ∀ (s : Fin 3) (j : Fin 4), ∀ a, (![s.val, j.val, 0, 0] : Fin 4 → Nat) a + S1x1x256x1024.size a ≤ S3x4x256x1024.size a := by decide +kernel
theorem words_q : ∀ (s : Fin 3) (j : Fin 4), (Rect.unit (s := S3x4x256x1024) ![s.val, j.val, 0, 0] S1x1x256x1024.size (inb_q s j)).WholeWords (EltTy.packing .bf16) := by decide +kernel
theorem inb_d : ∀ (s : Fin 3) (k : Fin 2), ∀ a, (![s.val, k.val, 0, 0] : Fin 4 → Nat) a + S1x1x256x1024.size a ≤ S3x2x256x1024.size a := by decide +kernel
theorem words_d : ∀ (s : Fin 3) (k : Fin 2), (Rect.unit (s := S3x2x256x1024) ![s.val, k.val, 0, 0] S1x1x256x1024.size (inb_d s k)).WholeWords (EltTy.packing .bf16) := by decide +kernel

/-- A block as a memref of 256 rows. -/
def Slot.m : Slot → Memref sig .tc .vmem S256x1024 .bf16
  | .qm r j => ((Memref.whole cc0_scratch0).slice (Rect.unit (s := S4x4x256x1024) ![r.val, j.val, 0, 0] S1x1x256x1024.size (inb_qm r j)) (fun _ => rfl)).squeeze S256x1024 squeezes_S1x1x256x1024_S256x1024
  | .qx s j => ((Memref.whole cc0_scratch1).slice (Rect.unit (s := S3x4x256x1024) ![s.val, j.val, 0, 0] S1x1x256x1024.size (inb_q s j)) (fun _ => rfl)).squeeze S256x1024 squeezes_S1x1x256x1024_S256x1024
  | .qy s j => ((Memref.whole cc0_scratch2).slice (Rect.unit (s := S3x4x256x1024) ![s.val, j.val, 0, 0] S1x1x256x1024.size (inb_q s j)) (fun _ => rfl)).squeeze S256x1024 squeezes_S1x1x256x1024_S256x1024
  | .dx s k => ((Memref.whole cc0_scratch3).slice (Rect.unit (s := S3x2x256x1024) ![s.val, k.val, 0, 0] S1x1x256x1024.size (inb_d s k)) (fun _ => rfl)).squeeze S256x1024 squeezes_S1x1x256x1024_S256x1024
  | .dy s k => ((Memref.whole cc0_scratch4).slice (Rect.unit (s := S3x2x256x1024) ![s.val, k.val, 0, 0] S1x1x256x1024.size (inb_d s k)) (fun _ => rfl)).squeeze S256x1024 squeezes_S1x1x256x1024_S256x1024

theorem Slot.wordExact : ∀ b : Slot, b.m.view.WordExact
  | .qm r j => ((Memref.isWhole_whole cc0_scratch0).wordExact_slice rfl _ (words_qm r j)).reshape _ _
  | .qx s j => ((Memref.isWhole_whole cc0_scratch1).wordExact_slice rfl _ (words_q s j)).reshape _ _
  | .qy s j => ((Memref.isWhole_whole cc0_scratch2).wordExact_slice rfl _ (words_q s j)).reshape _ _
  | .dx s k => ((Memref.isWhole_whole cc0_scratch3).wordExact_slice rfl _ (words_d s k)).reshape _ _
  | .dy s k => ((Memref.isWhole_whole cc0_scratch4).wordExact_slice rfl _ (words_d s k)).reshape _ _

/-- The argument's rows a device keeps as block `j` of its own quarter. -/
def inM (c : Dev nD) (j : Fin 4) : Memref sig .tc .hbm S256x1024 .bf16 :=
  (Memref.whole main_arg0).slice (Rect.unit (s := S4096x1024) (k0_off1 c (BitVec.ofNat 32 (256 * j.val))) S256x1024.size (k0_off1_inb c j)) (fun _ => rfl)
theorem inM_wordExact (c : Dev nD) (j : Fin 4) : (inM c j).view.WordExact :=
  (Memref.isWhole_whole main_arg0).wordExact_slice rfl _ (k0_off1_wordsbf16 c j)

/-- The result's rows a device's own plane goes to. -/
def ownM (c : Dev nD) : Memref sig .tc .hbm S4096x1024 .bf16 :=
  (Memref.whole main_v1).slice (Rect.unit (s := S16384x1024) (k0_off2 c) S4096x1024.size (k0_off2_inb c)) (fun _ => rfl)
theorem ownM_wordExact (c : Dev nD) : (ownM c).view.WordExact :=
  (Memref.isWhole_whole main_v1).wordExact_slice rfl _ (k0_off2_wordsbf16 c)

/-- The first row and column of the result's rows that the block landed by a transfer goes to, as the body computes them; -/
def outOff (c : Dev nD) : Xfer → (Fin 2 → Nat)
  | .z s j => k0_off3 c (BitVec.ofNat 32 (1 + s.val)) (BitVec.ofNat 32 (256 * j.val))
  | .x s j => k0_off4 c (BitVec.ofNat 32 (1 + s.val)) (BitVec.ofNat 32 (256 * j.val))
  | .y s j => k0_off5 c (BitVec.ofNat 32 (1 + s.val)) (BitVec.ofNat 32 (256 * j.val))
  | .rx s k => k0_off6 c (BitVec.ofNat 32 (1 + s.val)) (BitVec.ofNat 32 (256 * k.val))
  | .ry s k => k0_off7 c (BitVec.ofNat 32 (1 + s.val)) (BitVec.ofNat 32 (256 * k.val))

theorem outOff_inb (c : Dev nD) : ∀ (t : Xfer) (a : Fin 2), outOff c t a + S256x1024.size a ≤ S16384x1024.size a
  | .z s j => k0_off3_inb c s j
  | .x s j => k0_off4_inb c s j
  | .y s j => k0_off5_inb c s j
  | .rx s k => k0_off6_inb c s k
  | .ry s k => k0_off7_inb c s k

/-- those rows. -/
def outM (c : Dev nD) (t : Xfer) : Memref sig .tc .hbm S256x1024 .bf16 :=
  (Memref.whole main_v1).slice (Rect.unit (s := S16384x1024) (outOff c t) S256x1024.size (outOff_inb c t)) (fun _ => rfl)

theorem outM_wordExact (c : Dev nD) : ∀ t : Xfer, (outM c t).view.WordExact
  | .z s j => (Memref.isWhole_whole main_v1).wordExact_slice rfl _ (k0_off3_wordsbf16 c s j)
  | .x s j => (Memref.isWhole_whole main_v1).wordExact_slice rfl _ (k0_off4_wordsbf16 c s j)
  | .y s j => (Memref.isWhole_whole main_v1).wordExact_slice rfl _ (k0_off5_wordsbf16 c s j)
  | .rx s k => (Memref.isWhole_whole main_v1).wordExact_slice rfl _ (k0_off6_wordsbf16 c s k)
  | .ry s k => (Memref.isWhole_whole main_v1).wordExact_slice rfl _ (k0_off7_wordsbf16 c s k)

/-- The device a transfer goes to, as the body computes it. -/
def Xfer.to (c : Dev nD) : Xfer → Dev nD
  | .z _ _ => ⟨k0_dev5 c, k0_dev5_lt c⟩
  | .x _ _ => ⟨k0_dev10 c, k0_dev10_lt c⟩
  | .y _ _ => ⟨k0_dev11 c, k0_dev11_lt c⟩
  | .rx _ _ => ⟨k0_dev10 c, k0_dev10_lt c⟩
  | .ry _ _ => ⟨k0_dev11 c, k0_dev11_lt c⟩

/-- The devices the four signals of the opening handshake go to. -/
def sigTo (c : Dev nD) : Fin 4 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩

theorem inb12 : ∀ i : Fin 12, ∀ a, (![i.val] : Fin 1 → Nat) a + S1.size a ≤ S12.size a := by decide +kernel
theorem inb6 : ∀ i : Fin 6, ∀ a, (![i.val] : Fin 1 → Nat) a + S1.size a ≤ S6.size a := by decide +kernel
theorem inb16 : ∀ i : Fin 16, ∀ a, (![i.val] : Fin 1 → Nat) a + S1.size a ≤ S16.size a := by decide +kernel
theorem inb5 : ∀ i : Fin 5, ∀ a, (![i.val] : Fin 1 → Nat) a + S1.size a ≤ S5.size a := by decide +kernel

abbrev sem12 (A : DmaSems sig S12) (i : Fin 12) : DmaSem sig :=
  ((A.slice (Rect.unit (s := S12) ![i.val] S1.size (inb12 i))).squeeze S_ squeezes_S1_S_).sem
abbrev sem6 (A : DmaSems sig S6) (i : Fin 6) : DmaSem sig :=
  ((A.slice (Rect.unit (s := S6) ![i.val] S1.size (inb6 i))).squeeze S_ squeezes_S1_S_).sem
abbrev sem16 (A : DmaSems sig S16) (i : Fin 16) : DmaSem sig :=
  ((A.slice (Rect.unit (s := S16) ![i.val] S1.size (inb16 i))).squeeze S_ squeezes_S1_S_).sem
abbrev sem5 (A : DmaSems sig S5) (i : Fin 5) : DmaSem sig :=
  ((A.slice (Rect.unit (s := S5) ![i.val] S1.size (inb5 i))).squeeze S_ squeezes_S1_S_).sem

/-- The place of a block among the twelve, or six, of its kind. -/
abbrev at12 (s : Fin 3) (j : Fin 4) : Fin 12 := ⟨4 * s.val + j.val, by omega⟩
abbrev at6 (s : Fin 3) (k : Fin 2) : Fin 6 := ⟨2 * s.val + k.val, by omega⟩

/-- The semaphore a transfer credits at its sender, -/
def Xfer.ssem : Xfer → DmaSem sig
  | .z r j => sem12 cc0_scratch5 (at12 r j)
  | .x s j => sem12 cc0_scratch7 (at12 s j)
  | .y s j => sem12 cc0_scratch9 (at12 s j)
  | .rx s k => sem6 cc0_scratch11 (at6 s k)
  | .ry s k => sem6 cc0_scratch13 (at6 s k)

/-- at its receiver, -/
def Xfer.rsem : Xfer → DmaSem sig
  | .z r j => sem12 cc0_scratch6 (at12 r j)
  | .x s j => sem12 cc0_scratch8 (at12 s j)
  | .y s j => sem12 cc0_scratch10 (at12 s j)
  | .rx s k => sem6 cc0_scratch12 (at6 s k)
  | .ry s k => sem6 cc0_scratch14 (at6 s k)

/-- and the place among the sixteen of its round of the copy of a landed block into the result; -/
def Xfer.place : Xfer → Fin 16
  | .z _ j => ⟨3 * j.val, by omega⟩
  | .x _ j => ⟨3 * j.val + 1, by omega⟩
  | .y _ j => ⟨3 * j.val + 2, by omega⟩
  | .rx _ k => ⟨12 + 2 * k.val, by omega⟩
  | .ry _ k => ⟨13 + 2 * k.val, by omega⟩

/-- the semaphore of that copy. The rounds share the sixteen. -/
def Xfer.osem (t : Xfer) : DmaSem sig := sem16 cc0_scratch15 t.place

/-- The semaphores of the copies out of the argument: four blocks, then the whole plane. -/
def inSem (j : Fin 5) : DmaSem sig := sem5 cc0_scratch16 j

abbrev barS : Sem sig := (SemArray.scalar (sig.barrier 0 rfl) : Sems sig S_).sem

/-! ## The steps -/

/-- A step of the body. -/
inductive Op where
  /-- start and end of the copy of block `j` of the argument into scratch; -/
  | inStart (j : Fin 4) | inWait (j : Fin 4)
  /-- of the argument into the result; -/
  | ownStart | ownWait
  /-- the handshake: a signal to neighbour `i`, the wait for the four neighbours' signals; -/
  | signal (i : Fin 4) | meet
  /-- a transfer: its start, the wait at its receiver, the wait at its sender; -/
  | send (t : Xfer) | recv (t : Xfer) | sent (t : Xfer)
  /-- start and end of the copy of the block landed by a transfer into the result. -/
  | outStart (t : Xfer) | outWait (t : Xfer)
  deriving DecidableEq

/-- The operation a step stands for, on device `c`. -/
def Op.prog (c : Dev nD) : Op → Prog (TpuEff nD τ sig (Elt F) Λ₀ .tc) PUnit
  | .inStart j => Prog.lift (.enqueueDma (inM c j) (.here (Slot.qm 0 j).m) (.dma (inSem j.castSucc)) (inM_wordExact c j) (Slot.qm 0 j).wordExact ⟨Or.inl rfl, trivial⟩)
  | .inWait j => Prog.lift (.waitDma2 (inSem j.castSucc) (inM c j) (Slot.qm 0 j).m (inM_wordExact c j) (Slot.qm 0 j).wordExact)
  | .ownStart => Prog.lift (.enqueueDma (Memref.whole main_arg0) (.here (ownM c)) (.dma (inSem 4)) (Memref.isWhole_whole main_arg0).wordExact (ownM_wordExact c) ⟨Or.inl rfl, trivial⟩)
  | .ownWait => Prog.lift (.waitDma2 (inSem 4) (Memref.whole main_arg0) (ownM c) (Memref.isWhole_whole main_arg0).wordExact (ownM_wordExact c))
  | .signal i => semSignalWord (sigTo c i) barS 1#32
  | .meet => semWaitWord barS 4#32
  | .send t => Prog.lift (.enqueueDma t.src.m (.remote (Dev.tc (t.to c)) t.dst.m (.dma t.ssem)) (.dma t.rsem) t.src.wordExact t.dst.wordExact ⟨⟨rfl, Or.inl rfl⟩, trivial⟩)
  | .recv t => Prog.lift (.waitDma2 t.rsem t.src.m t.dst.m t.src.wordExact t.dst.wordExact)
  | .sent t => Prog.lift (.waitDma2 t.ssem t.dst.m t.src.m t.dst.wordExact t.src.wordExact)
  | .outStart t => Prog.lift (.enqueueDma t.dst.m (.here (outM c t)) (.dma t.osem) t.dst.wordExact (outM_wordExact c t) ⟨Or.inl rfl, trivial⟩)
  | .outWait t => Prog.lift (.waitDma2 t.osem t.dst.m (outM c t) t.dst.wordExact (outM_wordExact c t))

/-- A list of steps, run from the front. -/
def run (c : Dev nD) : List Op → Prog (TpuEff nD τ sig (Elt F) Λ₀ .tc) PUnit
  | [] => pure ⟨⟩
  | o :: os => o.prog c >>= fun _ => run c os

/-- The transfers of round `s` whose blocks a device copies into its result, in that order. -/
def landed (s : Fin 3) : List Xfer :=
  [.z s 0, .x s 0, .y s 0, .z s 1, .x s 1, .y s 1, .z s 2, .x s 2, .y s 2, .z s 3, .x s 3, .y s 3,
    .rx s 0, .ry s 0, .rx s 1, .ry s 1]

/-- The relays of round `s`, each as soon as the block it passes on has landed. -/
def relay (s : Fin 3) : List Op :=
  [.recv (.x s 2), .send (.ry s 0), .recv (.x s 3), .send (.ry s 1),
    .recv (.y s 0), .send (.rx s 0), .recv (.y s 1), .send (.rx s 1)]

/-- The round's other arrivals. -/
def arrive (s : Fin 3) : List Op :=
  [.recv (.x s 0), .recv (.x s 1), .recv (.y s 2), .recv (.y s 3),
    .recv (.ry s 0), .recv (.ry s 1), .recv (.rx s 0), .recv (.rx s 1)]

/-- Block `j` of a round before the last: as it lands it goes on around the ring and to both neighbours; -/
def pass (s r : Fin 3) (j : Fin 4) : List Op := [.recv (.z s j), .send (.z r j), .send (.x s j), .send (.y s j)]
/-- of the last round, to both neighbours. -/
def pass' (j : Fin 4) : List Op := [.recv (.z 2 j), .send (.x 2 j), .send (.y 2 j)]

/-- The transfers in the order of their starts. -/
def sends : List Xfer :=
  [.z 0 0, .z 0 1, .z 0 2, .z 0 3,
    .z 1 0, .x 0 0, .y 0 0, .z 1 1, .x 0 1, .y 0 1, .z 1 2, .x 0 2, .y 0 2, .z 1 3, .x 0 3, .y 0 3,
    .z 2 0, .x 1 0, .y 1 0, .z 2 1, .x 1 1, .y 1 1, .z 2 2, .x 1 2, .y 1 2, .z 2 3, .x 1 3, .y 1 3,
    .ry 0 0, .ry 0 1, .rx 0 0, .rx 0 1,
    .x 2 0, .y 2 0, .x 2 1, .y 2 1, .x 2 2, .y 2 2, .x 2 3, .y 2 3,
    .ry 1 0, .ry 1 1, .rx 1 0, .rx 1 1, .ry 2 0, .ry 2 1, .rx 2 0, .rx 2 1]

/-- The steps of the body, in order. -/
def steps : List Op :=
  [.inStart 0, .inStart 1, .inStart 2, .inStart 3, .ownStart, .signal 0, .signal 1, .signal 2, .signal 3, .meet,
    .inWait 0, .inWait 1, .inWait 2, .inWait 3, .send (.z 0 0), .send (.z 0 1), .send (.z 0 2), .send (.z 0 3)]
  ++ pass 0 1 0 ++ pass 0 1 1 ++ pass 0 1 2 ++ pass 0 1 3
  ++ pass 1 2 0 ++ pass 1 2 1 ++ pass 1 2 2 ++ pass 1 2 3
  ++ relay 0 ++ arrive 0 ++ [.ownWait] ++ (landed 0).map .outStart
  ++ pass' 0 ++ pass' 1 ++ pass' 2 ++ pass' 3
  ++ relay 1 ++ arrive 1 ++ (landed 0).map .outWait ++ (landed 1).map .outStart
  ++ relay 2 ++ arrive 2 ++ (landed 1).map .outWait ++ (landed 2).map .outStart
  ++ (landed 2).map .outWait ++ sends.map .sent

/-- The printed body, on the operands the launch calls it with. -/
abbrev body : Prog (TpuEff nD τ sig (Elt F) Λ₀ .tc) PUnit :=
  cc0_body (F := F) (Memref.whole main_arg0) (Memref.isWhole_whole _) (Memref.whole main_v1) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8 cc0_scratch9 cc0_scratch10 cc0_scratch11 cc0_scratch12 cc0_scratch13 cc0_scratch14 cc0_scratch15 cc0_scratch16

/-- The printed body is the steps. -/
theorem body_eq : body (F := F) = (Prog.lift .deviceId >>= fun c : Dev nD => run c steps) := by chain_rfl

end Cert.Gather
-- ==== Proof.Protocol.lean ====
/-
  How the devices meet: the cells and their schedule.

  A device's barrier cell is signalled once by each of its four neighbours. A neighbour's signal hands over the blocks of
  ITS scratch that the signalled device will write, so after the wait for all four the device holds every block it is
  going to copy into. A transfer has two cells: one at its sender, which gives back the share of the source block the
  copy read, and one at its receiver, which hands over the landed block at its contents. Each cell has one round.

  Contents. A block always holds a quarter's rows of some device's argument: which device and which rows is `org`, `ix`.
  That a transfer lands what the receiver's block is to hold is `org_dst`, `ix_dst`, decided over the mesh.
-/
module

public import proofs.«01_k».proof.Proof.Program
public import Idealize.ShloMosaic.Lib.ShareLeaves

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

/-! ## The resource algebra: the launch's staging cells, the cells of the schedule, the local copies' counters -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
/-- Where the schedule's ghost state sits. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The mesh -/

set_option backward.proofsInPublic true in
/-- The device across in `x`, -/
def xn (c : Dev nD) : Dev nD := ⟨(c.val + 8) % 16, Nat.mod_lt _ (by decide)⟩
set_option backward.proofsInPublic true in
/-- across in `y`, -/
def yn (c : Dev nD) : Dev nD := ⟨(8 * (c.val / 8) + (c.val + 4) % 8) % 16, Nat.mod_lt _ (by decide)⟩
set_option backward.proofsInPublic true in
/-- `r` places back around the ring of planes. -/
def zb (c : Dev nD) (r : ℕ) : Dev nD := ⟨(4 * (c.val / 4) + (c.val + (4 - r)) % 4) % 16, Nat.mod_lt _ (by decide)⟩

/-- The neighbour a transfer goes to, as the handshake numbers them: 0 the next plane, 2 across in `x`, 3 across in `y`. -/
def Xfer.via : Xfer → Fin 4
  | .z _ _ => 0
  | .x _ _ => 2
  | .y _ _ => 3
  | .rx _ _ => 2
  | .ry _ _ => 3

/-- The device whose rows a block holds, -/
def org (c : Dev nD) : Slot → Dev nD
  | .qm r _ => zb c r.val
  | .qx s _ => zb (xn c) (s.val + 1)
  | .qy s _ => zb (yn c) (s.val + 1)
  | .dx s _ => zb (yn (xn c)) (s.val + 1)
  | .dy s _ => zb (yn (xn c)) (s.val + 1)

/-- and which of the four blocks of that device's quarter. -/
def Slot.ix : Slot → Fin 4
  | .qm _ j => j
  | .qx _ j => j
  | .qy _ j => j
  | .dx _ k => lo k
  | .dy _ k => hi k

theorem org_dst : ∀ (t : Xfer) (c : Dev nD), org (t.to c) t.dst = org c t.src := by decide +kernel
theorem ix_dst : ∀ t : Xfer, t.dst.ix = t.src.ix := by decide +kernel
theorem org_own : ∀ (j : Fin 4) (c : Dev nD), org c (.qm 0 j) = c := by decide +kernel

/-- The neighbour signalled as number `i` sends its transfers of that number back here. -/
theorem to_sigTo : ∀ (t : Xfer) (c : Dev nD), t.to (sigTo c t.via) = c := by decide +kernel
theorem sigTo_to : ∀ (t : Xfer) (c : Dev nD), sigTo (t.to c) t.via = c := by decide +kernel

/-- The share of a block a transfer reads it at. The copy into the result reads share 0. -/
def Xfer.lane : Xfer → Fin 4
  | .z _ _ => 3
  | .x _ _ => 1
  | .y _ _ => 2
  | .rx _ _ => 1
  | .ry _ _ => 1

/-! ## The cells -/

/-- Every transfer, once. -/
theorem sends_nodup : sends.Nodup := by decide +kernel
theorem mem_sends : ∀ t : Xfer, t ∈ sends := by decide +kernel

/-- The cells of a device: its barrier cell, and of each transfer the sender's (`false`) and the receiver's (`true`). -/
abbrev Cell : Type := Option (Bool × Xfer)

def csem : Cell → SemLoc sig
  | none => .reg barS
  | some (false, t) => .dma t.ssem
  | some (true, t) => .dma t.rsem

/-- The semaphore's cell, if it is one's. -/
def cellAt (s : SemLoc sig) : Option Cell :=
  (none :: (sends.map fun t => some (false, t)) ++ sends.map fun t => some (true, t)).find? fun k => decide (csem k = s)

theorem cellAt_csem : ∀ k : Cell, cellAt (csem k) = some k := by decide +kernel
theorem cellAt_bar : cellAt (.reg barS) = some none := cellAt_csem none
theorem cellAt_ssem (t : Xfer) : cellAt (.dma t.ssem) = some (some (false, t)) := cellAt_csem (some (false, t))
theorem cellAt_rsem (t : Xfer) : cellAt (.dma t.rsem) = some (some (true, t)) := cellAt_csem (some (true, t))
theorem cellAt_in : ∀ j : Fin 5, cellAt (.dma (inSem j)) = none := by decide +kernel
theorem cellAt_out : ∀ p : Fin 16, cellAt (.dma (sem16 cc0_scratch15 p)) = none := by decide +kernel

theorem csem_injective : Function.Injective csem := fun a b h => by
  have := cellAt_csem a; rw [h, cellAt_csem b] at this; exact (Option.some.inj this).symm

abbrev barCell (c : Dev nD) : GSem nD τ sig := ((c : Thread nD τ), .reg barS)
abbrev sCell (c : Dev nD) (t : Xfer) : GSem nD τ sig := ((c : Thread nD τ), .dma t.ssem)
abbrev rCell (c : Dev nD) (t : Xfer) : GSem nD τ sig := ((c : Thread nD τ), .dma t.rsem)
abbrev kcell (ck : Dev nD × Cell) : GSem nD τ sig := ((ck.1 : Thread nD τ), csem ck.2)

/-- The credit of a block. -/
abbrev N : ℕ := (Slot.qm 0 0).m.view.dmaCredit
theorem N_pos : 0 < N := View.dmaCredit_pos _ (by decide)

theorem credit_slot (b : Slot) : b.m.view.dmaCredit = N := by cases b <;> rfl
theorem credit_out (c : Dev nD) (t : Xfer) : (outM c t).view.dmaCredit = N := rfl

/-! ## Contents -/

/-- Block `j` of device `c`'s quarter of its argument. -/
def quarter (c : Dev nD) (j : Fin 4) : S256x1024.Idx → Elt F .bf16 :=
  (inM c j).view.read (Elt F) (m ((inM c j).view.loc (c : Thread nD τ)))

/-- What the block is to hold, over what the scratch held at launch. -/
def can (c : Dev nD) (b : Slot) : Buf (Elt F) (b.m.view.loc (c : Thread nD τ)) :=
  b.m.view.write (Elt F) (m (b.m.view.loc (c : Thread nD τ))) (quarter m (org c b) b.ix) Finset.univ

omit [FloatOps F] in
theorem read_can (c : Dev nD) (b : Slot) : b.m.view.read (Elt F) (can m c b) = quarter m (org c b) b.ix :=
  View.read_write_univ _ _

/-- A filled block, at a share; -/
def filled (c : Dev nD) (b : Slot) (q : PosShare TreeShare) : sProp 𝕄 :=
  b.m.view.loc (c : Thread nD τ) ↦[b.m.view.set]{q} can m c b
/-- at one of four shares that make the whole; -/
def part (c : Dev nD) (b : Slot) (i : Fin 4) : sProp 𝕄 := filled m c b (leaf 2 fullShare i)
/-- a block still to be written. -/
def blank (c : Dev nD) (b : Slot) : sProp 𝕄 :=
  iprop(∃ f : Buf (Elt F) (b.m.view.loc (c : Thread nD τ)), b.m.view.loc (c : Thread nD τ) ↦[b.m.view.set]{fullShare} f)

omit [FloatOps F] in
instance filled_storable (c : Dev nD) (b : Slot) (q) : BI.Storable (upEmb : UEmb _ 𝕄) (filled (F := F) m c b q) := by unfold filled; infer_instance
omit [FloatOps F] in
instance part_storable (c : Dev nD) (b : Slot) (i) : BI.Storable (upEmb : UEmb _ 𝕄) (part (F := F) m c b i) := by unfold part; infer_instance
omit [FloatOps F] in
instance blank_storable (c : Dev nD) (b : Slot) : BI.Storable (upEmb : UEmb _ 𝕄) (blank (F := F) c b) := by unfold blank; infer_instance

omit [FloatOps F] in
/-- A write of all of a view's elements leaves them at what was written, whatever they were. -/
theorem pts_write {c : Thread nD τ} {sp : Space} {s : Shape} {e : EltTy} (v : View sig c.2.kind sp s e) (f g : Buf (Elt F) (v.loc c))
    (w : s.Idx → Elt F e) (q : PosShare TreeShare) (h : v.read (Elt F) g = w) :
    (v.loc c ↦[v.set]{q} v.write (Elt F) f w Finset.univ : sProp 𝕄) = v.loc c ↦[v.set]{q} g := by
  refine pointsTo_congr fun i hi => ?_
  rw [← h, View.write_read_eq_piecewise]
  exact Finset.piecewise_eq_of_mem _ _ _ hi

omit [FloatOps F] in
/-- The four shares. -/
theorem filled_parts (c : Dev nD) (b : Slot) :
    filled m c b fullShare = (bigSep Finset.univ fun i : Fin 4 => part m c b i : sProp 𝕄) := by
  unfold filled part
  exact ShareLeaves.pointsTo_leaves _ _ 2 fullShare

omit [FloatOps F] in
/-- A transfer lands what its destination is to hold. -/
theorem landing (c : Dev nD) (t : Xfer) (fd : Buf (Elt F) (t.dst.m.view.loc (t.to c : Thread nD τ))) :
    (t.dst.m.view.loc (t.to c : Thread nD τ) ↦[t.dst.m.view.set]{fullShare}
        (t.dst.m.view.write (Elt F) fd (t.src.m.view.read (Elt F) (can m c t.src)) Finset.univ) : sProp 𝕄)
      = filled m (t.to c) t.dst fullShare := by
  unfold filled
  rw [read_can]
  exact pts_write (c := (t.to c : Thread nD τ)) t.dst.m.view fd (can m (t.to c) t.dst) _ fullShare (by rw [read_can, org_dst, ix_dst])

/-! ## The schedule -/

/-- What the signal of number `i` hands device `c`: the blocks of that neighbour that `c`'s transfers to it write. -/
def lending (c : Dev nD) (i : Fin 4) : sProp 𝕄 :=
  bigSep (Finset.univ.filter fun t : Xfer => t.via = i) fun t => blank (t.to c) t.dst

omit [FloatOps F] in
instance lending_storable (c : Dev nD) (i : Fin 4) : BI.Storable (upEmb : UEmb _ 𝕄) (lending (F := F) c i) := by unfold lending; infer_instance

/-- One round, round 0. -/
def sched : Rounds.Schedule (GSem nD τ sig) (Fin 4) 𝕄 where
  duties g r := if r = 0 ∧ g.1.2 = .tc then (match cellAt g.2 with | none => ∅ | some none => Finset.univ | some (some _) => {0}) else ∅
  unitless _ := False
  amount g _ _ := match cellAt g.2 with | some none => 1 | _ => N
  payload g _ d := match cellAt g.2 with
    | none => iprop(emp)
    | some none => lending g.1.1 d
    | some (some (false, t)) => part m g.1.1 t.src t.lane
    | some (some (true, t)) => filled m g.1.1 t.dst fullShare
  amount_pos g _ _ _ := by split; exacts [Nat.one_pos, N_pos]

omit [FloatOps F] in
instance sched_storable (g : GSem nD τ sig) (r : ℕ) (d : Fin 4) : BI.Storable (upEmb : UEmb _ 𝕄) ((sched (F := F) m).payload g r d) := by
  dsimp only [sched]; split <;> infer_instance

section Sched
variable (c : Dev nD) (t : Xfer)

omit [FloatOps F] in
theorem duties_bar : (sched (F := F) m).duties (barCell c) 0 = Finset.univ := by dsimp only [sched]; rw [if_pos ⟨rfl, rfl⟩, cellAt_bar]
omit [FloatOps F] in
theorem duties_s : (sched (F := F) m).duties (sCell c t) 0 = {0} := by dsimp only [sched]; rw [if_pos ⟨rfl, rfl⟩, cellAt_ssem]
omit [FloatOps F] in
theorem duties_r : (sched (F := F) m).duties (rCell c t) 0 = {0} := by dsimp only [sched]; rw [if_pos ⟨rfl, rfl⟩, cellAt_rsem]
omit [FloatOps F] in
theorem duties_later (g : GSem nD τ sig) : ∀ r, 0 + 1 ≤ r → (sched (F := F) m).duties g r = ∅ :=
  fun r hr => by dsimp only [sched]; rw [if_neg fun h => by omega]

omit [FloatOps F] in
theorem amount_bar (d : Fin 4) : (sched (F := F) m).amount (barCell c) 0 d = 1 := by dsimp only [sched]; rw [cellAt_bar]
omit [FloatOps F] in
theorem amount_s (d : Fin 4) : (sched (F := F) m).amount (sCell c t) 0 d = N := by dsimp only [sched]; rw [cellAt_ssem]
omit [FloatOps F] in
theorem amount_r (d : Fin 4) : (sched (F := F) m).amount (rCell c t) 0 d = N := by dsimp only [sched]; rw [cellAt_rsem]

omit [FloatOps F] in
theorem expect_bar : (sched (F := F) m).expect (barCell c) 0 = 4 := by
  unfold Schedule.expect Schedule.amountOf
  rw [duties_bar, Finset.sum_congr rfl fun d _ => amount_bar m c d]; rfl
omit [FloatOps F] in
theorem expect_s : (sched (F := F) m).expect (sCell c t) 0 = N := by
  unfold Schedule.expect Schedule.amountOf; rw [duties_s, Finset.sum_singleton, amount_s]
omit [FloatOps F] in
theorem expect_r : (sched (F := F) m).expect (rCell c t) 0 = N := by
  unfold Schedule.expect Schedule.amountOf; rw [duties_r, Finset.sum_singleton, amount_r]

omit [FloatOps F] in
theorem payload_bar (d : Fin 4) : (sched (F := F) m).payload (barCell c) 0 d = lending c d := by dsimp only [sched]; rw [cellAt_bar]
omit [FloatOps F] in
theorem payload_s (d : Fin 4) : (sched (F := F) m).payload (sCell c t) 0 d = part m c t.src t.lane := by dsimp only [sched]; rw [cellAt_ssem]
omit [FloatOps F] in
theorem payload_r (d : Fin 4) : (sched (F := F) m).payload (rCell c t) 0 d = filled m c t.dst fullShare := by dsimp only [sched]; rw [cellAt_rsem]

omit [FloatOps F] in
/-- All four signals' payloads are every block the device's transfers write. -/
theorem rest_bar : bigSep ((sched (F := F) m).duties (barCell c) 0 \ ∅) (fun d => (sched (F := F) m).payload (barCell c) 0 d)
    = (bigSep Finset.univ fun t : Xfer => blank (t.to c) t.dst : sProp 𝕄) := by
  rw [Finset.sdiff_empty, duties_bar, bigSep_congr fun d _ => payload_bar m c d]
  unfold lending
  rw [← bigSep_biUnion_eq]
  · congr 1
    ext t; simp
  · intro i _ j _ h
    exact Finset.disjoint_filter.mpr fun t _ hi hj => h (hi.symm.trans hj)
omit [FloatOps F] in
theorem rest_s : bigSep ((sched (F := F) m).duties (sCell c t) 0 \ ∅) (fun d => (sched (F := F) m).payload (sCell c t) 0 d) = part m c t.src t.lane := by
  rw [Finset.sdiff_empty, duties_s, bigSep_singleton, payload_s]
omit [FloatOps F] in
theorem rest_r : bigSep ((sched (F := F) m).duties (rCell c t) 0 \ ∅) (fun d => (sched (F := F) m).payload (rCell c t) 0 d) = filled m c t.dst fullShare := by
  rw [Finset.sdiff_empty, duties_r, bigSep_singleton, payload_r]

end Sched

/-! ## What a device owes; the levels -/

/-- What a step pays, -/
def Op.tally (c : Dev nD) : Op → CellTallies nD τ sig Unit
  | .signal i => tallyAt (barCell (sigTo c i)) () 1
  | .send t => tallyAt (rCell (t.to c) t) () N
  | _ => 0

/-- and what a list of steps pays, the first step's the last summand. -/
def due (c : Dev nD) : List Op → CellTallies nD τ sig Unit
  | [] => 0
  | o :: os => due c os + o.tally c

/-- A receiver's cell waits for nothing that is paid after it: the levels follow the order in which the body's phases end. -/
def Xfer.level : Xfer → ℕ
  | .z r _ => 2 + r.val
  | .x s _ => if s = 2 then 7 else 5
  | .y s _ => if s = 2 then 7 else 5
  | .rx s _ => if s = 0 then 6 else if s = 1 then 8 else 9
  | .ry s _ => if s = 0 then 6 else if s = 1 then 8 else 9

def semLevel (s : SemLoc sig) : ℕ := match cellAt s with
  | some none => 1
  | some (some (true, t)) => t.level
  | _ => 0

def L (g : GSem nD τ sig) : Finset Unit := if g.1.2 = .tc then {()} else ∅
def lv (g : GSem nD τ sig) (_ : Unit) : ℕ := semLevel g.2

theorem L_of_ne (g : GSem nD τ sig) (h : g.1.2 ≠ .tc) : L g = ∅ := if_neg h
theorem L_tc (c : Dev nD) (sm : SemLoc sig) : L ((c : Thread nD τ), sm) = {()} := if_pos rfl

theorem semLevel_bar : semLevel (.reg barS) = 1 := by unfold semLevel; rw [cellAt_bar]
theorem semLevel_s (t : Xfer) : semLevel (.dma t.ssem) = 0 := by unfold semLevel; rw [cellAt_ssem]
theorem semLevel_r (t : Xfer) : semLevel (.dma t.rsem) = t.level := by unfold semLevel; rw [cellAt_rsem]
theorem semLevel_in (j : Fin 5) : semLevel (.dma (inSem j)) = 0 := by unfold semLevel; rw [cellAt_in]
theorem semLevel_out (t : Xfer) : semLevel (.dma t.osem) = 0 := by unfold semLevel Xfer.osem; rw [cellAt_out]

/-- The level of the cell a step pays, if it pays one. -/
def Op.pays : Op → Option ℕ
  | .signal _ => some 1
  | .send t => some t.level
  | _ => none

/-- Every cell the steps pay is above level `l`. -/
def above (l : ℕ) (os : List Op) : Bool := os.all fun o => match o.pays with | none => true | some k => decide (l < k)

theorem tally_pos {c : Dev nD} {o : Op} {g : GSem nD τ sig} {u : Unit} (h : 0 < o.tally c g u) :
    ∃ k, o.pays = some k ∧ g.1.2 = .tc ∧ lv g u = k := by
  cases o with
  | signal i =>
    unfold Op.tally at h; rw [tallyAt_apply] at h
    by_cases hg : g = barCell (sigTo c i) ∧ u = ()
    · exact ⟨1, rfl, by rw [hg.1], by rw [hg.1]; exact semLevel_bar⟩
    · rw [if_neg hg] at h; exact absurd h (Nat.lt_irrefl 0)
  | send t =>
    unfold Op.tally at h; rw [tallyAt_apply] at h
    by_cases hg : g = rCell (t.to c) t ∧ u = ()
    · exact ⟨t.level, rfl, by rw [hg.1], by rw [hg.1]; exact semLevel_r t⟩
    · rw [if_neg hg] at h; exact absurd h (Nat.lt_irrefl 0)
  | _ => exact absurd h (Nat.lt_irrefl 0)

theorem due_pos {c : Dev nD} {g : GSem nD τ sig} {u : Unit} : ∀ {os : List Op} {l : ℕ}, above l os = true → 0 < due c os g u → g.1.2 = .tc ∧ l < lv g u
  | [], _, _, h => absurd h (Nat.lt_irrefl 0)
  | o :: os, l, ha, h => by
    unfold above at ha
    rw [List.all_cons, Bool.and_eq_true] at ha
    unfold due at h
    rw [Pi.add_apply, Finsupp.add_apply] at h
    by_cases h0 : 0 < due c os g u
    · exact due_pos ha.2 h0
    · obtain ⟨k, hk, hg, hl⟩ := tally_pos (c := c) (o := o) (g := g) (u := u) (by omega)
      refine ⟨hg, ?_⟩
      have := ha.1
      rw [hk] at this
      rw [hl]; exact of_decide_eq_true this

omit [FloatOps F] in
/-- A device may wait at a cell below all it still owes. -/
theorem mayWait (c : Dev nD) (sm : SemLoc sig) (os : List Op) (ha : above (semLevel sm) os = true) :
    (levAts L lv : sProp 𝕄) ⊢ MayWait (c : Thread nD τ) sm () (due c os) :=
  MayOwe.of_cut (L := L) (lev := lv) (semLevel sm) (fun p hp => by rw [Finset.mem_singleton.mp hp, L_tc]; exact Finset.mem_singleton_self _)
    (fun g u hg => by unfold L; rw [if_pos (due_pos ha hg).1]; exact Finset.mem_singleton_self _)
    (fun p hp => by rw [Finset.mem_singleton.mp hp]; exact le_refl _)
    (fun g u hg => (due_pos ha hg).2)

end Cert.Gather
-- ==== Proof.Result.lean ====
/-
  The result a device is to hold, and where the landed blocks stand in it.

  Row by row the result is some device's argument (`OUT`). The copies into it write the device's own plane and, for each
  transfer, 256 rows; `read_out` and `read_own` say that what they write is what the result is to hold there, and
  `rows` that these rows are disjoint and make the whole.
-/
module

public import proofs.«01_k».proof.Proof.Protocol
public import Idealize.ShloMosaic.Lib.Pipeline.ValueKit.Geometry

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The result -/

set_option backward.proofsInPublic true in
/-- The device whose rows row `i` of device `c`'s result are: the planes stand one below the other, and in a plane the four
    quarters in the order of their devices. Its own plane a device has all of. -/
def srcDev (c : Dev nD) (i : ℕ) : Dev nD :=
  if i / 4096 = c.val % 4 then c else ⟨(8 * ((i % 4096) / 2048) + 4 * ((i % 2048) / 1024) + i / 4096) % 16, Nat.mod_lt _ (by decide)⟩

/-- The row of that device's argument. -/
def argRow (i : S16384x1024.Idx) : S4096x1024.Idx := fun a => match a with
  | ⟨0, _⟩ => ⟨(i 0).val % 4096, Nat.mod_lt _ (by decide)⟩
  | ⟨1, _⟩ => ⟨(i 1).val, (i 1).isLt⟩

/-- Device `c`'s result: every row the argument's of the device it comes from. -/
def OUT (c : Dev nD) : Buf (Elt F) ((c : Thread nD τ).loc main_v1) :=
  fun i : S16384x1024.Idx => m ((srcDev c (i 0).val : Thread nD τ).loc main_arg0) (argRow i)

/-! ## What the copies write -/

theorem outOff_col : ∀ (t : Xfer) (c : Dev nD), outOff c t 1 = 0 := by decide +kernel
theorem outOff_aligned : ∀ (t : Xfer) (c : Dev nD), outOff c t 0 % 256 = 0 := by decide +kernel
theorem outOff_src : ∀ (t : Xfer) (c : Dev nD), srcDev c (outOff c t 0) = org c t.dst := by decide +kernel
theorem outOff_row : ∀ (t : Xfer) (c : Dev nD),
    outOff c t 0 % 4096 = k0_off1 (org c t.dst) (BitVec.ofNat 32 (256 * t.dst.ix.val)) 0 := by decide +kernel
theorem off1_col : ∀ (c : Dev nD) (j : Fin 4), k0_off1 c (BitVec.ofNat 32 (256 * j.val)) 1 = 0 := by decide +kernel
theorem off2_row : ∀ c : Dev nD, k0_off2 c 0 = 4096 * (c.val % 4) := by decide +kernel
theorem off2_col : ∀ c : Dev nD, k0_off2 c 1 = 0 := by decide +kernel

/-- Rows of one block of 256 come from one device. -/
theorem srcDev_block (c : Dev nD) {i x : ℕ} (hi : i % 256 = 0) (hx : x < 256) : srcDev c (i + x) = srcDev c i := by
  have h1 : (i + x) / 4096 = i / 4096 := by omega
  have h2 : (i + x) % 4096 / 2048 = i % 4096 / 2048 := by omega
  have h3 : (i + x) % 2048 / 1024 = i % 2048 / 1024 := by omega
  unfold srcDev
  simp only [h1, h2, h3]

omit [FloatOps F] in
theorem OUT_at (c d : Dev nD) (i : S16384x1024.Idx) (k : S4096x1024.Idx) (hd : srcDev c (i 0).val = d)
    (h0 : (i 0).val % 4096 = (k 0).val) (h1 : (i 1).val = (k 1).val) : OUT m c i = m ((d : Thread nD τ).loc main_arg0) k := by
  subst hd
  unfold OUT
  refine congrArg _ (funext fun a => ?_)
  match a with
  | ⟨0, _⟩ => exact Fin.ext h0
  | ⟨1, _⟩ => exact Fin.ext h1

omit [FloatOps F] in
theorem read_out (c : Dev nD) (t : Xfer) : (outM c t).view.read (Elt F) (OUT m c) = quarter m (org c t.dst) t.dst.ix := by
  funext x
  have hx0 : (x 0).val < 256 := (x 0).isLt
  have e : ∀ a : Fin 2, ((outM c t).view.emb x a).val = outOff c t a + (x a).val := fun a => ValueKit.view_emb_slice_whole_unit_val main_v1 _ _ (outOff_inb c t) x a
  have e' : ∀ a : Fin 2, ((inM (org c t.dst) t.dst.ix).view.emb x a).val = k0_off1 (org c t.dst) (BitVec.ofNat 32 (256 * t.dst.ix.val)) a + (x a).val :=
    fun a => ValueKit.view_emb_slice_whole_unit_val main_arg0 _ _ (k0_off1_inb _ _) x a
  show OUT m c ((outM c t).view.emb x) = m ((org c t.dst : Thread nD τ).loc main_arg0) ((inM (org c t.dst) t.dst.ix).view.emb x)
  refine OUT_at m c (org c t.dst) _ _ ?_ ?_ ?_
  · rw [e 0, srcDev_block c (outOff_aligned t c) hx0, outOff_src]
  · rw [e 0, e' 0, ← outOff_row]
    have := outOff_aligned t c
    omega
  · rw [e 1, e' 1, outOff_col, off1_col]

omit [FloatOps F] in
theorem read_own (c : Dev nD) : (ownM c).view.read (Elt F) (OUT m c) = m ((c : Thread nD τ).loc main_arg0) := by
  funext x
  have hx0 : (x 0).val < 4096 := (x 0).isLt
  have e : ∀ a : Fin 2, ((ownM c).view.emb x a).val = k0_off2 c a + (x a).val := fun a => ValueKit.view_emb_slice_whole_unit_val main_v1 _ _ (k0_off2_inb c) x a
  show OUT m c ((ownM c).view.emb x) = m ((c : Thread nD τ).loc main_arg0) x
  have h := off2_row c
  refine OUT_at m c c _ _ ?_ ?_ ?_
  · rw [e 0, h]; unfold srcDev; rw [if_pos (by omega)]
  · rw [e 0, h]; omega
  · rw [e 1, off2_col, Nat.zero_add]

/-! ## The rows, disjoint and making the whole -/

/-- Which copy writes a row: none for the device's own plane. -/
def writer (c : Dev nD) (i : ℕ) : Option Xfer :=
  if i / 4096 = c.val % 4 then none else sends.find? fun t => decide (outOff c t 0 / 256 = i / 256)

theorem writer_out : ∀ (t : Xfer) (c : Dev nD), writer c (outOff c t 0) = some t := by decide +kernel
/-- The first of a block's rows is the first its writer writes. -/
def writerOk (c : Dev nD) (b : ℕ) : Bool := match writer c (256 * b) with
  | none => decide (b / 16 = c.val % 4)
  | some t => decide (outOff c t 0 = 256 * b)
theorem writer_ok : ∀ (c : Dev nD) (b : Fin 64), writerOk c b.val = true := by decide +kernel

theorem writer_block (c : Dev nD) {i j : ℕ} (h : i / 256 = j / 256) : writer c i = writer c j := by
  have h1 : i / 4096 = j / 4096 := by omega
  unfold writer
  rw [h, h1]

theorem writer_first (c : Dev nD) {i : ℕ} (hi : i < 16384) :
    (writer c i = none → i / 4096 = c.val % 4) ∧ ∀ t, writer c i = some t → outOff c t 0 = 256 * (i / 256) := by
  have hw := writer_ok c ⟨i / 256, by omega⟩
  unfold writerOk at hw
  dsimp only at hw
  rw [← writer_block c (i := i) (by omega)] at hw
  constructor
  · intro h; rw [h] at hw; have := of_decide_eq_true hw; omega
  · intro t h; rw [h] at hw; exact of_decide_eq_true hw

/-- The rows a copy writes. -/
def rows (c : Dev nD) : Option Xfer → Finset (Idx ((c : Thread nD τ).loc main_v1))
  | none => (ownM c).view.set
  | some t => (outM c t).view.set

theorem mem_own (c : Dev nD) (i : S16384x1024.Idx) : i ∈ (ownM c).view.set ↔ (i 0).val / 4096 = c.val % 4 := by
  have hi1 : (i 1).val < 1024 := (i 1).isLt
  have hr := off2_row c
  have hc := off2_col c
  have hs : (ownM c).view.set = (Rect.unit (s := S16384x1024) (k0_off2 c) S4096x1024.size (k0_off2_inb c)).set := View.set_slice_whole main_v1 _
  refine (iff_of_eq (congrArg (fun S : Finset S16384x1024.Idx => i ∈ S) hs)).trans (Rect.mem_set_unit.trans ⟨fun h => ?_, fun h a => ?_⟩)
  · have h0 := h 0
    have : S4096x1024.size 0 = 4096 := rfl
    omega
  · match a with
    | ⟨0, _⟩ => exact (show k0_off2 c 0 ≤ (i 0).val ∧ (i 0).val < k0_off2 c 0 + 4096 by omega)
    | ⟨1, _⟩ => exact (show k0_off2 c 1 ≤ (i 1).val ∧ (i 1).val < k0_off2 c 1 + 1024 by omega)

theorem mem_out (c : Dev nD) (t : Xfer) (i : S16384x1024.Idx) : i ∈ (outM c t).view.set ↔ outOff c t 0 = 256 * ((i 0).val / 256) := by
  have hi1 : (i 1).val < 1024 := (i 1).isLt
  have hr := outOff_aligned t c
  have hc := outOff_col t c
  have hs : (outM c t).view.set = (Rect.unit (s := S16384x1024) (outOff c t) S256x1024.size (outOff_inb c t)).set := View.set_slice_whole main_v1 _
  refine (iff_of_eq (congrArg (fun S : Finset S16384x1024.Idx => i ∈ S) hs)).trans (Rect.mem_set_unit.trans ⟨fun h => ?_, fun h a => ?_⟩)
  · have h0 := h 0
    have : S256x1024.size 0 = 256 := rfl
    omega
  · match a with
    | ⟨0, _⟩ => exact (show outOff c t 0 ≤ (i 0).val ∧ (i 0).val < outOff c t 0 + 256 by omega)
    | ⟨1, _⟩ => exact (show outOff c t 1 ≤ (i 1).val ∧ (i 1).val < outOff c t 1 + 1024 by omega)

theorem mem_rows (c : Dev nD) (o : Option Xfer) (i : S16384x1024.Idx) : i ∈ rows c o ↔ writer c (i 0).val = o := by
  have hw := writer_first c (i 0).isLt
  cases o with
  | none => exact (mem_own c i).trans ⟨fun h => by unfold writer; rw [if_pos h], hw.1⟩
  | some t => exact (mem_out c t i).trans ⟨fun h => by rw [← writer_out t c]; exact writer_block c (by omega), hw.2 t⟩

theorem rows_disjoint (c : Dev nD) : ∀ o o', o ≠ o' → Disjoint (rows c o) (rows c o') := fun o o' h =>
  Finset.disjoint_left.mpr fun i hi hi' => h (((mem_rows c o i).mp hi).symm.trans ((mem_rows c o' i).mp hi'))
theorem rows_whole (c : Dev nD) : Finset.univ.biUnion (rows c) = Finset.univ :=
  Finset.eq_univ_iff_forall.mpr fun i => Finset.mem_biUnion.mpr ⟨_, Finset.mem_univ _, (mem_rows c _ i).mpr rfl⟩

end Cert.Gather
-- ==== Proof.Steps.lean ====
/-
  What a device holds between the steps of the body, and the rule of each step.

  What it holds is a set of RESOURCES, each named by a value of `Res`; `Res.own` says what a name stands for. Every step
  takes some resources and gives some (`Op.pre`, `Op.post`), and `step_ok` proves so for each of the eleven kinds of step,
  at a symbolic device, block and transfer. The whole body is then a question about names only (Exec.lean).
-/
module

public import proofs.«01_k».proof.Proof.Result
public import Idealize.ShloMosaic.Lib.Pipeline.BigSepL

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

abbrev 𝒱₀ : Variants := Variants.none

/-! ## The resources -/

inductive Res where
  /-- the blocks lent with signal `i`; a block of a neighbour's a transfer writes; a block of the device's own quarter unwritten; -/
  | lend (i : Fin 4) | lent (t : Xfer) | bare (j : Fin 4)
  /-- the argument's rows of block `j`, and the argument, at the shares their copies read; -/
  | arg (j : Fin 4) | plane
  /-- the counters of the local copies' semaphores, and the copies in flight; -/
  | semIn (j : Fin 5) | semOut (p : Fin 16) | inFly (j : Fin 4) | ownFly | outFly (t : Xfer)
  /-- the rows of the result, unwritten and written; -/
  | outBare (t : Xfer) | out (t : Xfer) | ownBare | ownDone
  /-- a quarter share of a filled block; -/
  | part (b : Slot) (i : Fin 4)
  /-- what starting a transfer takes, what waiting for it at its sender takes, that done; at its receiver; -/
  | toSend (t : Xfer) | inSend (t : Xfer) | zS (t : Xfer) | toRecv (t : Xfer) | zR (t : Xfer)
  /-- the same for the handshake. -/
  | toSig (i : Fin 4) | toMeet | zB
  deriving DecidableEq, Fintype

/-- The blocks of device `c` that the device signalled as number `i` writes. -/
def lendOut (c : Dev nD) (i : Fin 4) : sProp 𝕄 := bigSep (Finset.univ.filter fun t : Xfer => t.via = i) fun t => blank c t.dst

def argPts (c : Dev nD) (j : Fin 4) : sProp 𝕄 :=
  (inM c j).view.loc (c : Thread nD τ) ↦[(inM c j).view.set]{leaf 2 fullShare.right j} m ((inM c j).view.loc (c : Thread nD τ))
def planePts (c : Dev nD) : sProp 𝕄 :=
  (Memref.whole main_arg0 : Memref sig .tc _ _ _).view.loc (c : Thread nD τ) ↦[(Memref.whole main_arg0 : Memref sig .tc _ _ _).view.set]{fullShare.left}
    m ((c : Thread nD τ).loc main_arg0)

/-- The result's rows for a transfer's block, at contents `f` of the whole result; -/
def outPts (c : Dev nD) (t : Xfer) (f : Buf (Elt F) ((c : Thread nD τ).loc main_v1)) : sProp 𝕄 :=
  (outM c t).view.loc (c : Thread nD τ) ↦[(outM c t).view.set]{fullShare} f
/-- its rows for the device's own plane. -/
def ownPts (c : Dev nD) (f : Buf (Elt F) ((c : Thread nD τ).loc main_v1)) : sProp 𝕄 :=
  (ownM c).view.loc (c : Thread nD τ) ↦[(ownM c).view.set]{fullShare} f

/-- The copy of the plane's credit. -/
abbrev N₄ : ℕ := (ownM 0).view.dmaCredit
theorem N₄_pos : 0 < N₄ := View.dmaCredit_pos _ (by decide)

theorem credit_own (c : Dev nD) : (ownM c).view.dmaCredit = N₄ := rfl

/-- What a resource is. -/
def Res.own (c : Dev nD) : Res → sProp 𝕄
  | .lend i => lendOut c i
  | .lent t => blank (t.to c) t.dst
  | .bare j => blank c (.qm 0 j)
  | .arg j => argPts m c j
  | .plane => planePts m c
  | .semIn j => semVal ((c : Thread nD τ), .dma (inSem j)) 0
  | .semOut p => semVal ((c : Thread nD τ), .dma (sem16 cc0_scratch15 p)) 0
  | .inFly j => Flight countersEmb (c : Thread nD τ) (.dma (inSem j.castSucc)) () N iprop(filled m c (.qm 0 j) fullShare ∗ argPts m c j)
  | .ownFly => Flight countersEmb (c : Thread nD τ) (.dma (inSem 4)) () N₄ iprop(ownPts c (OUT m c) ∗ planePts m c)
  | .outFly t => Flight countersEmb (c : Thread nD τ) (.dma t.osem) () N iprop(outPts c t (OUT m c) ∗ Gather.part m c t.dst 0)
  | .outBare t => outPts c t (m ((c : Thread nD τ).loc main_v1))
  | .out t => outPts c t (OUT m c)
  | .ownBare => ownPts c (m ((c : Thread nD τ).loc main_v1))
  | .ownDone => ownPts c (OUT m c)
  | .part b i => Gather.part m c b i
  | .toSend t => iprop(dutyTok ER (sCell c t) 0 0 ∗ dutyTok ER (rCell (t.to c) t) 0 0 ∗ atPos ER (sCell c t) 0 ∅ 0)
  | .inSend t => iprop(cred (tallyAt (sCell c t) () N) ∗ atPos ER (sCell c t) 0 ∅ 0)
  | .zS t => semVal (sCell c t) 0
  | .toRecv t => iprop(cred (tallyAt (rCell c t) () N) ∗ atPos ER (rCell c t) 0 ∅ 0)
  | .zR t => semVal (rCell c t) 0
  | .toSig i => dutyTok ER (barCell (sigTo c i)) 0 i
  | .toMeet => iprop(cred (tallyAt (barCell c) () 4) ∗ atPos ER (barCell c) 0 ∅ 0)
  | .zB => semVal (barCell c) 0

/-- All four shares of a block. -/
def parts (b : Slot) : List Res := [.part b 0, .part b 1, .part b 2, .part b 3]

/-- What a step takes, -/
def Op.pre : Op → List Res
  | .inStart j => [.arg j, .bare j, .semIn j.castSucc]
  | .inWait j => [.inFly j]
  | .ownStart => [.plane, .ownBare, .semIn 4]
  | .ownWait => [.ownFly]
  | .signal i => [.toSig i, .lend i]
  | .meet => [.toMeet]
  | .send t => [.part t.src t.lane, .lent t, .toSend t]
  | .recv t => [.toRecv t]
  | .sent t => [.inSend t]
  | .outStart t => [.part t.dst 0, .outBare t, .semOut t.place]
  | .outWait t => [.outFly t]

/-- and what it gives. -/
def Op.post : Op → List Res
  | .inStart j => [.inFly j]
  | .inWait j => .arg j :: .semIn j.castSucc :: parts (.qm 0 j)
  | .ownStart => [.ownFly]
  | .ownWait => [.ownDone, .plane, .semIn 4]
  | .signal i => []
  | .meet => .zB :: sends.map .lent
  | .send t => [.inSend t]
  | .recv t => .zR t :: parts t.dst
  | .sent t => [.zS t, .part t.src t.lane]
  | .outStart t => [.outFly t]
  | .outWait t => [.out t, .part t.dst 0, .semOut t.place]

/-- The level of the cell a step waits at. -/
def Op.waits : Op → ℕ
  | .meet => 1
  | .recv t => t.level
  | _ => 0

/-- The cells' records every device shares: each cell's invariant, at the names `K`, each at round 0; and the levels. -/
def records (K : Dev nD × Cell → ℕ) : sProp 𝕄 :=
  iprop((bigSep Finset.univ fun ck : Dev nD × Cell => cellInv ER (sched m) (K ck) (kcell ck))
    ∗ (bigSep Finset.univ fun ck : Dev nD × Cell => reached ER (kcell ck) 0) ∗ levAts L lv)

instance records_persistent (K : Dev nD × Cell → ℕ) : BI.Persistent (records (F := F) m K) := by unfold records; infer_instance

omit [FloatOps F] in
theorem inv_at (K : Dev nD × Cell → ℕ) (c : Dev nD) (k : Cell) : records m K ⊢ (cellInv ER (sched (F := F) m) (K (c, k)) ((c : Thread nD τ), csem k) : sProp 𝕄) := by
  unfold records
  exact (sep_elim_left (PROP := sProp 𝕄)).trans (bigSep_elim (Finset.mem_univ (c, k)))
omit [FloatOps F] in
theorem reached_at (K : Dev nD × Cell → ℕ) (c : Dev nD) (k : Cell) : records m K ⊢ (reached ER ((c : Thread nD τ), csem k) 0 : sProp 𝕄) := by
  unfold records
  exact ((sep_elim_right (PROP := sProp 𝕄)).trans sep_elim_left).trans (bigSep_elim (Φ := fun ck : Dev nD × Cell => (reached ER (kcell ck) 0 : sProp 𝕄)) (Finset.mem_univ (c, k)))
omit [FloatOps F] in
theorem levs (K : Dev nD × Cell → ℕ) : records m K ⊢ (levAts L lv : sProp 𝕄) := by
  unfold records
  iintro ⟨-, -, H⟩
  iexact H

set_option maxRecDepth 10000 in
theorem may (K : Dev nD × Cell → ℕ) (c : Dev nD) (sm : SemLoc sig) (os : List Op) (ha : above (semLevel sm) os = true) :
    records m K ⊢ (MayWait (c : Thread nD τ) sm () (due c os) : sProp 𝕄) := (levs m K).trans (mayWait c sm os ha)

/-- The resources of a list. -/
def holds (c : Dev nD) (l : List Res) : sProp 𝕄 := bigSepL l (Res.own m c)

/-- What the device owes, whatever waits it has recorded. -/
def owing (c : Dev nD) (os : List Op) : sProp 𝕄 := iprop(∃ W, owes (c : Thread nD τ) (due c os) W)

omit [FloatOps F] in
theorem holds_none (c : Dev nD) : holds m c [] = (iprop(emp) : sProp 𝕄) := rfl
omit [FloatOps F] in
theorem holds_one (c : Dev nD) (r : Res) : holds m c [r] = r.own m c := rfl
omit [FloatOps F] in
theorem holds_two (c : Dev nD) (r r' : Res) (l : List Res) : holds m c (r :: r' :: l) = iprop(r.own m c ∗ holds m c (r' :: l)) := rfl

omit [FloatOps F] in
theorem holds_parts (c : Dev nD) (b : Slot) : filled m c b fullShare = holds m c (parts b) := by
  rw [filled_parts]
  refine (bigSep_univ_eq_bigSepL [(0 : Fin 4), 1, 2, 3] (by decide) (by decide) _).trans ?_
  unfold holds parts
  simp only [bigSepL_cons_cons, bigSepL_singleton, Res.own]

omit [FloatOps F] in
theorem holds_cons (c : Dev nD) (r : Res) (l : List Res) : holds m c (r :: l) = iprop(r.own m c ∗ holds m c l) := bigSepL_cons' _ _ _

/-! ## The rules of the steps -/

section Rules

/-- The rest of the program, run from what a step gives. -/
abbrev wpRest (c : Dev nD) {α : Type} (k : PUnit → Prog (TpuEff nD τ sig (Elt F) Λ₀ .tc) α) (Ψ : α → sProp 𝕄) : sProp 𝕄 :=
  wp frame (wpE (defs₀ (F := F)) 𝒱₀ (c : Thread nD τ) none) Set.univ (k ⟨⟩) Ψ

/-- A step is good when, from what it takes and what the device owes before it, it runs to what it gives and what the
    device owes after it. -/
def StepOk (K : Dev nD × Cell → ℕ) (c : Dev nD) (o : Op) (os : List Op) : Prop :=
  ∀ {α : Type} (k : PUnit → Prog (TpuEff nD τ sig (Elt F) Λ₀ .tc) α) (Ψ : α → sProp 𝕄),
    iprop(records m K ∗ holds m c o.pre ∗ owing c (o :: os))
      ⊢ iprop((iprop(holds m c o.post ∗ owing c os) -∗ wpRest c k Ψ)
          -∗ wp frame (wpE (defs₀ (F := F)) 𝒱₀ (c : Thread nD τ) none) Set.univ (o.prog c >>= k) Ψ)

/-- A step that pays nothing leaves what is owed. -/
theorem owing_free {c : Dev nD} {o : Op} {os : List Op} (h : o.tally c = 0) :
    (owing c (o :: os) : sProp 𝕄) = iprop(∃ W, owes (c : Thread nD τ) (due c os) W) := by
  unfold owing
  rw [show due c (o :: os) = due c os by rw [due, h, add_zero]]

variable (K : Dev nD × Cell → ℕ) (c : Dev nD)

theorem ok_inStart (j : Fin 4) (os : List Op) : StepOk m K c (.inStart j) os := by
  intro α k Ψ
  rw [owing_free rfl]
  simp only [Op.pre, Op.post, Op.prog, Prog.lift, Prog.bind_op, Prog.bind_ret, Prog.pure_eq_ret, holds_two, holds_one, Res.own]
  unfold blank argPts
  iintro ⟨-, ⟨Ha, ⟨%fd, Hb⟩, Hv⟩, HO⟩ Hk
  iapply (wp_dmaLocal countersEmb 𝒱₀ (c : Thread nD τ) none () N (show (Slot.qm 0 j).m.view.amount (.dma (inSem j.castSucc)) = N from credit_slot _) N_pos subset_rfl) $$ [Ha Hb Hv]
  · isplitl [Ha]; · iexact Ha
    isplitl [Hb]; · iexact Hb
    iexact Hv
  iintro Hf
  iapply Hk
  isplitl [Hf]
  · iapply (Flight_mono countersEmb (c : Thread nD τ) (sep_mono_left (PROP := sProp 𝕄) (Entails.of_eq ?_))) $$ Hf
    unfold filled
    exact pts_write _ _ _ _ _ (by rw [read_can, org_own]; rfl)
  · unfold owing
    iexact HO

theorem ok_ownStart (os : List Op) : StepOk m K c .ownStart os := by
  intro α k Ψ
  rw [owing_free rfl]
  simp only [Op.pre, Op.post, Op.prog, Prog.lift, Prog.bind_op, Prog.bind_ret, Prog.pure_eq_ret, holds_two, holds_one, Res.own]
  unfold planePts ownPts
  iintro ⟨-, ⟨Ha, Hb, Hv⟩, HO⟩ Hk
  iapply (wp_dmaLocal countersEmb 𝒱₀ (c : Thread nD τ) none () N₄ rfl N₄_pos subset_rfl) $$ [Ha Hb Hv]
  · isplitl [Ha]; · iexact Ha
    isplitl [Hb]; · iexact Hb
    iexact Hv
  iintro Hf
  iapply Hk
  isplitl [Hf]
  · iapply (Flight_mono countersEmb (c : Thread nD τ) (sep_mono_left (PROP := sProp 𝕄) (Entails.of_eq ?_))) $$ Hf
    exact pts_write _ _ _ _ _ (by rw [read_own]; rfl)
  · unfold owing
    iexact HO

theorem ok_outStart (t : Xfer) (os : List Op) : StepOk m K c (.outStart t) os := by
  intro α k Ψ
  rw [owing_free rfl]
  simp only [Op.pre, Op.post, Op.prog, Prog.lift, Prog.bind_op, Prog.bind_ret, Prog.pure_eq_ret, holds_two, holds_one, Res.own]
  unfold outPts Gather.part filled
  iintro ⟨-, ⟨Ha, Hb, Hv⟩, HO⟩ Hk
  iapply (wp_dmaLocal countersEmb 𝒱₀ (c : Thread nD τ) none () N (show (outM c t).view.amount (.dma t.osem) = N from credit_out c t) N_pos subset_rfl) $$ [Ha Hb Hv]
  · isplitl [Ha]; · iexact Ha
    isplitl [Hb]; · iexact Hb
    iexact Hv
  iintro Hf
  iapply Hk
  isplitl [Hf]
  · iapply (Flight_mono countersEmb (c : Thread nD τ) (sep_mono_left (PROP := sProp 𝕄) (Entails.of_eq ?_))) $$ Hf
    exact pts_write _ _ _ _ _ (by rw [read_out, ← read_can])
  · unfold owing
    iexact HO

theorem ok_inWait (j : Fin 4) (os : List Op) (ha : above 0 os = true) : StepOk m K c (.inWait j) os := by
  intro α k Ψ
  rw [owing_free rfl]
  simp only [Op.pre, Op.post, Op.prog, Prog.lift, Prog.bind_op, Prog.bind_ret, Prog.pure_eq_ret, holds_cons, holds_none, ← holds_parts, Res.own]
  iintro ⟨#HR, ⟨Hf, -⟩, ⟨%W, HO⟩⟩ Hk
  iapply (wp_waitLocalO countersEmb 𝒱₀ (c : Thread nD τ) none () (credit_slot (.qm 0 j))) $$ [Hf HO]
  · isplitl [Hf]; · iexact Hf
    isplitl [HO]; · iexact HO
    iapply (may m K c _ os (by rw [semLevel_in]; exact ha))
    iexact HR
  iintro ⟨⟨Hb, Ha⟩, Hv, HO⟩
  iapply Hk
  isplitl [Hb Ha Hv]
  · isplitl [Ha]; · iexact Ha
    isplitl [Hv]; · iexact Hv
    iexact Hb
  · unfold owing
    iexists _
    iexact HO

theorem ok_ownWait (os : List Op) (ha : above 0 os = true) : StepOk m K c .ownWait os := by
  intro α k Ψ
  rw [owing_free rfl]
  simp only [Op.pre, Op.post, Op.prog, Prog.lift, Prog.bind_op, Prog.bind_ret, Prog.pure_eq_ret, holds_two, holds_one, Res.own]
  iintro ⟨#HR, Hf, ⟨%W, HO⟩⟩ Hk
  iapply (wp_waitLocalO countersEmb 𝒱₀ (c : Thread nD τ) none () (credit_own c)) $$ [Hf HO]
  · isplitl [Hf]; · iexact Hf
    isplitl [HO]; · iexact HO
    iapply (may m K c (.dma (inSem 4)) os ((congrArg (above · os) (semLevel_in 4)).trans ha))
    iexact HR
  iintro ⟨⟨Hb, Ha⟩, Hv, HO⟩
  iapply Hk
  isplitl [Hb Ha Hv]
  · isplitl [Hb]; · iexact Hb
    isplitl [Ha]; · iexact Ha
    iexact Hv
  · unfold owing
    iexists _
    iexact HO

theorem ok_outWait (t : Xfer) (os : List Op) (ha : above 0 os = true) : StepOk m K c (.outWait t) os := by
  intro α k Ψ
  rw [owing_free rfl]
  simp only [Op.pre, Op.post, Op.prog, Prog.lift, Prog.bind_op, Prog.bind_ret, Prog.pure_eq_ret, holds_two, holds_one, Res.own]
  iintro ⟨#HR, Hf, ⟨%W, HO⟩⟩ Hk
  iapply (wp_waitLocalO countersEmb 𝒱₀ (c : Thread nD τ) none () (credit_out c t)) $$ [Hf HO]
  · isplitl [Hf]; · iexact Hf
    isplitl [HO]; · iexact HO
    iapply (may m K c _ os (by rw [semLevel_out]; exact ha))
    iexact HR
  iintro ⟨⟨Hb, Ha⟩, Hv, HO⟩
  iapply Hk
  isplitl [Hb Ha Hv]
  · isplitl [Hb]; · iexact Hb
    isplitl [Ha]; · iexact Ha
    iexact Hv
  · unfold owing
    iexists _
    iexact HO

/-- A signal hands the neighbour the blocks of this device that its transfers write. -/
theorem lendOut_eq (i : Fin 4) : (lendOut c i : sProp 𝕄) = lending (sigTo c i) i := by
  unfold lendOut lending
  exact bigSep_congr fun t ht => by
    have h := (Finset.mem_filter.mp ht).2
    subst h
    rw [to_sigTo]

theorem ok_signal (i : Fin 4) (os : List Op) : StepOk m K c (.signal i) os := by
  intro α k Ψ
  simp only [Op.pre, Op.post, Op.prog, semSignalWord, Prog.lift, Prog.bind_op, Prog.bind_ret, Prog.pure_eq_ret, holds_two, holds_one, holds_none, Res.own]
  unfold owing
  iintro ⟨#HR, ⟨Ht, Hb⟩, ⟨%W, HO⟩⟩ Hk
  iapply (Rounds.wp_signal 𝒱₀ ER (sched m) (c : Thread nD τ) none (dst := (sigTo c i : Thread nD τ)) (κ := K (sigTo c i, none))
      (d := i) (by rw [duties_bar]; exact Finset.mem_univ _) ((amount_bar m (sigTo c i) i).trans (by decide)) () (due c os) rfl)
    $$ [HO Ht Hb]
  · isplitr; · iapply (inv_at m K (sigTo c i) none); iexact HR
    isplitl [HO]; · iexact HO
    isplitl [Ht]; · iexact Ht
    isplitl [Hb]; · rw [payload_bar, ← lendOut_eq]; iexact Hb
    iapply (reached_at m K (sigTo c i) none); iexact HR
  iintro HO
  iapply Hk
  isplitr; · iempintro
  iexists _
  iexact HO

theorem ok_meet (os : List Op) (ha : above 1 os = true) : StepOk m K c .meet os := by
  intro α k Ψ
  rw [owing_free rfl]
  simp only [Op.pre, Op.post, Op.prog, semWaitWord, Prog.lift, Prog.bind_op, Prog.bind_ret, Prog.pure_eq_ret, holds_cons, holds_none, Res.own]
  iintro ⟨#HR, ⟨⟨Hc, Hat⟩, -⟩, ⟨%W, HO⟩⟩ Hk
  ihave #HI := (inv_at m K c none) $$ HR
  iapply (Rounds.wp_wait_rest_token 𝒱₀ ER (sched m) (c : Thread nD τ) none (κ := K (c, none))
      (wpE_semWait_eq 𝒱₀ (c : Thread nD τ) none Set.univ) (Set.mem_univ _) () (O := due c os) (W := W) (R := 0) (m := 0) (T := ∅)
      (by rw [expect_bar]; decide)) $$ [Hc HO Hat]
  · isplitr; · iexact HI
    isplitl [Hc]; · iexact Hc
    isplitl [HO]; · iexact HO
    isplitr
    · iapply (may m K c _ os (by rw [semLevel_bar]; exact ha))
      iexact HR
    iexact Hat
  iintro ⟨HO, Hat, -, Hpay⟩
  ihave Hp := (Entails.of_eq (rest_bar m c)) $$ Hpay
  imod (Rounds.cell_close ER (sched m) (Set.mem_univ (K (c, none))) (fun h => h) (R := 0 + 1) (duties_later m (barCell c))) $$ [Hat] with Hz
  · isplitr; · iexact HI
    iexact Hat
  iapply Hk
  isplitl [Hz Hp]
  · isplitl [Hz]; · iexact Hz
    unfold holds
    rw [bigSepL_map, ← bigSep_univ_eq_bigSepL sends (Finset.ext fun t => by simp [mem_sends]) sends_nodup]
    iexact Hp
  · unfold owing
    iexists _
    iexact HO

theorem ok_recv (t : Xfer) (os : List Op) (ha : above t.level os = true) : StepOk m K c (.recv t) os := by
  intro α k Ψ
  rw [owing_free rfl]
  simp only [Op.pre, Op.post, Op.prog, Prog.lift, Prog.bind_op, Prog.bind_ret, Prog.pure_eq_ret, holds_cons, holds_none, ← holds_parts, Res.own]
  iintro ⟨#HR, ⟨⟨Hc, Hat⟩, -⟩, ⟨%W, HO⟩⟩ Hk
  ihave #HI := (inv_at m K c (some (true, t))) $$ HR
  iapply (Rounds.wp_wait_rest_token 𝒱₀ ER (sched m) (c : Thread nD τ) none (κ := K (c, some (true, t)))
      (wpE_waitDma2_eq 𝒱₀ (c : Thread nD τ) none Set.univ) (Set.mem_univ _) () (O := due c os) (W := W) (R := 0) (m := 0) (T := ∅)
      (by rw [Nat.zero_add, credit_slot]; exact (expect_r m c t).symm)) $$ [Hc HO Hat]
  · isplitr; · iexact HI
    isplitl [Hc]; · rw [credit_slot]; iexact Hc
    isplitl [HO]; · iexact HO
    isplitr
    · iapply (may m K c _ os (by rw [semLevel_r]; exact ha))
      iexact HR
    iexact Hat
  iintro ⟨HO, Hat, -, Hpay⟩
  ihave Hp := (Entails.of_eq (rest_r m c t)) $$ Hpay
  imod (Rounds.cell_close ER (sched m) (Set.mem_univ (K (c, some (true, t)))) (fun h => h) (R := 0 + 1) (duties_later m (rCell c t))) $$ [Hat] with Hz
  · isplitr; · iexact HI
    iexact Hat
  iapply Hk
  isplitl [Hz Hp]
  · isplitl [Hz]; · iexact Hz
    iexact Hp
  · unfold owing
    iexists _
    iexact HO

theorem ok_sent (t : Xfer) (os : List Op) (ha : above 0 os = true) : StepOk m K c (.sent t) os := by
  intro α k Ψ
  rw [owing_free rfl]
  simp only [Op.pre, Op.post, Op.prog, Prog.lift, Prog.bind_op, Prog.bind_ret, Prog.pure_eq_ret, holds_two, holds_one, Res.own]
  iintro ⟨#HR, ⟨Hc, Hat⟩, ⟨%W, HO⟩⟩ Hk
  ihave #HI := (inv_at m K c (some (false, t))) $$ HR
  iapply (Rounds.wp_wait_rest_token 𝒱₀ ER (sched m) (c : Thread nD τ) none (κ := K (c, some (false, t)))
      (wpE_waitDma2_eq 𝒱₀ (c : Thread nD τ) none Set.univ) (Set.mem_univ _) () (O := due c os) (W := W) (R := 0) (m := 0) (T := ∅)
      (by rw [Nat.zero_add, credit_slot]; exact (expect_s m c t).symm)) $$ [Hc HO Hat]
  · isplitr; · iexact HI
    isplitl [Hc]; · rw [credit_slot]; iexact Hc
    isplitl [HO]; · iexact HO
    isplitr
    · iapply (may m K c _ os (by rw [semLevel_s]; exact ha))
      iexact HR
    iexact Hat
  iintro ⟨HO, Hat, -, Hpay⟩
  ihave Hp := (Entails.of_eq (rest_s m c t)) $$ Hpay
  imod (Rounds.cell_close ER (sched m) (Set.mem_univ (K (c, some (false, t)))) (fun h => h) (R := 0 + 1) (duties_later m (sCell c t))) $$ [Hat] with Hz
  · isplitr; · iexact HI
    iexact Hat
  iapply Hk
  isplitl [Hz Hp]
  · isplitl [Hz]; · iexact Hz
    iexact Hp
  · unfold owing
    iexists _
    iexact HO

theorem ok_send (t : Xfer) (os : List Op) : StepOk m K c (.send t) os := by
  intro α k Ψ
  simp only [Op.pre, Op.post, Op.prog, Prog.lift, Prog.bind_op, Prog.bind_ret, Prog.pure_eq_ret, holds_two, holds_one, Res.own]
  unfold owing blank
  iintro ⟨#HR, ⟨Hs, ⟨%fd, Hd⟩, Hts, Htr, Hat⟩, ⟨%W, HO⟩⟩ Hk
  unfold Gather.part filled
  iapply (Rounds.wp_send_pointsTo 𝒱₀ ER (sched m) (c : Thread nD τ) none (κ₁ := K (c, some (false, t))) (κ₂ := K (t.to c, some (true, t)))
      (r₁ := 0) (r₂ := 0) (d₁ := 0) (d₂ := 0) (fd := fd)
      (by rw [duties_s]; exact Finset.mem_singleton_self _) (by rw [duties_r]; exact Finset.mem_singleton_self _) () ()
      N (show t.dst.m.view.amount (.dma t.rsem) = N from credit_slot t.dst) (amount_s m c t 0) (amount_r m (t.to c) t 0) (due c os) rfl (W := W)
      (Entails.of_eq (payload_s m c t 0).symm)
      (Entails.of_eq ((landing m c t fd).trans (payload_r m (t.to c) t 0).symm))) $$ [Hs Hd HO Hts Htr]
  · isplitr; · iapply (inv_at m K c (some (false, t))); iexact HR
    isplitr; · iapply (inv_at m K (t.to c) (some (true, t))); iexact HR
    isplitl [Hs]; · iexact Hs
    isplitl [Hd]; · iexact Hd
    isplitl [HO]; · iexact HO
    isplitl [Hts]; · iexact Hts
    isplitr; · iapply (reached_at m K c (some (false, t))); iexact HR
    isplitl [Htr]; · iexact Htr
    iapply (reached_at m K (t.to c) (some (true, t))); iexact HR
  iintro ⟨Hc, HO⟩
  iapply Hk
  isplitl [Hc Hat]
  · isplitl [Hc]; · iexact Hc
    iexact Hat
  · iexists _
    iexact HO

/-- Every step is good where it waits for nothing that is still owed. -/
theorem step_ok (o : Op) (os : List Op) (ha : above o.waits os = true) : StepOk m K c o os := by
  cases o with
  | inStart j => exact ok_inStart m K c j os
  | inWait j => exact ok_inWait m K c j os ha
  | ownStart => exact ok_ownStart m K c os
  | ownWait => exact ok_ownWait m K c os ha
  | signal i => exact ok_signal m K c i os
  | meet => exact ok_meet m K c os ha
  | send t => exact ok_send m K c t os
  | recv t => exact ok_recv m K c t os ha
  | sent t => exact ok_sent m K c t os ha
  | outStart t => exact ok_outStart m K c t os
  | outWait t => exact ok_outWait m K c t os ha

end Rules

end Cert.Gather
-- ==== Proof.Exec.lean ====
/-
  The body as a whole.

  What a device holds is a set of resources, written as the binary digits of a number. `exec` runs a list of steps on such
  a set: a step's resources must be there and what it gives must not be, and a step that waits must wait below everything
  still owed. `exec_ok` says that a list `exec` gets through is a program that runs, and `plan_ok` computes that `exec` gets
  through the body's steps from what a device holds at the start to what it hands back at the end.
-/
module

public import proofs.«01_k».proof.Proof.Steps

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers (Flight Flight_mono wp_dmaLocal wp_waitLocalO)
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## Numbering the resources -/

def Xfer.num : Xfer → ℕ
  | .z r j => 4 * r.val + j.val
  | .x s j => 12 + 4 * s.val + j.val
  | .y s j => 24 + 4 * s.val + j.val
  | .rx s k => 36 + 2 * s.val + k.val
  | .ry s k => 42 + 2 * s.val + k.val

def Slot.num : Slot → ℕ
  | .qm r j => 4 * r.val + j.val
  | .qx s j => 16 + 4 * s.val + j.val
  | .qy s j => 28 + 4 * s.val + j.val
  | .dx s k => 40 + 2 * s.val + k.val
  | .dy s k => 46 + 2 * s.val + k.val

theorem Xfer.num_inj : ∀ t t' : Xfer, t.num = t'.num → t = t' := by decide +kernel
theorem Slot.num_inj : ∀ b b' : Slot, b.num = b'.num → b = b' := by decide +kernel

/-- The kind of a resource, -/
def Res.tag : Res → ℕ
  | .lend _ => 0 | .lent _ => 1 | .bare _ => 2 | .arg _ => 3 | .plane => 4 | .semIn _ => 5 | .semOut _ => 6 | .inFly _ => 7
  | .ownFly => 8 | .outFly _ => 9 | .outBare _ => 10 | .out _ => 11 | .ownBare => 12 | .ownDone => 13 | .part _ _ => 14
  | .toSend _ => 15 | .inSend _ => 16 | .zS _ => 17 | .toRecv _ => 18 | .zR _ => 19 | .toSig _ => 20 | .toMeet => 21 | .zB => 22

/-- and its number among those of its kind. -/
def Res.idx : Res → ℕ
  | .lend i => i.val | .lent t => t.num | .bare j => j.val | .arg j => j.val | .plane => 0 | .semIn j => j.val
  | .semOut p => p.val | .inFly j => j.val | .ownFly => 0 | .outFly t => t.num | .outBare t => t.num | .out t => t.num
  | .ownBare => 0 | .ownDone => 0 | .part b i => 4 * b.num + i.val
  | .toSend t => t.num | .inSend t => t.num | .zS t => t.num | .toRecv t => t.num | .zR t => t.num
  | .toSig i => i.val | .toMeet => 0 | .zB => 0

/-- The digit that stands for a resource. -/
def Res.code (r : Res) : ℕ := 256 * r.tag + r.idx

theorem Res.idx_lt : ∀ r : Res, r.idx < 256 := by decide +kernel

theorem Res.eq_of (a b : Res) (ht : a.tag = b.tag) (hi : a.idx = b.idx) : a = b := by
  cases a <;> cases b <;> first
    | exact absurd ht (by simp only [Res.tag]; decide)
    | rfl
    | exact congrArg _ (Fin.ext hi)
    | exact congrArg _ (Xfer.num_inj _ _ hi)
    | skip
  rename_i b i b' i'
  simp only [Res.idx] at hi
  have h := i.isLt
  have h' := i'.isLt
  rw [Slot.num_inj b b' (by omega), show i = i' from Fin.ext (by omega)]

theorem Res.code_inj (a b : Res) (h : a.code = b.code) : a = b := by
  have ha := a.idx_lt
  have hb := b.idx_lt
  unfold Res.code at h
  exact Res.eq_of a b (by omega) (by omega)

/-! ## Taking from a set, adding to it -/

def take : List Res → ℕ → Option ℕ
  | [], S => some S
  | r :: l, S => if S.testBit r.code then take l (S ^^^ 2 ^ r.code) else none

def put : List Res → ℕ → Option ℕ
  | [], S => some S
  | r :: l, S => if S.testBit r.code then none else put l (S ^^^ 2 ^ r.code)

def members (S : ℕ) : Finset Res := Finset.univ.filter fun r => S.testBit r.code = true

/-- What the set `S` of resources is. -/
def held (c : Dev nD) (S : ℕ) : sProp 𝕄 := bigSep (members S) (Res.own m c)

theorem mem_flip (S : ℕ) (r r' : Res) : r' ∈ members (S ^^^ 2 ^ r.code) ↔ (S.testBit r'.code ^^ decide (r.code = r'.code)) = true := by
  unfold members
  rw [Finset.mem_filter, Nat.testBit_xor, Nat.testBit_two_pow]
  simp

theorem members_flip {S : ℕ} {r : Res} (h : S.testBit r.code = false) :
    r ∉ members S ∧ members (S ^^^ 2 ^ r.code) = insert r (members S) := by
  constructor
  · unfold members; rw [Finset.mem_filter, h]; simp
  · ext r'
    rw [mem_flip, Finset.mem_insert]
    unfold members
    rw [Finset.mem_filter]
    by_cases e : r' = r
    · subst e; simp [h]
    · have : ¬ r.code = r'.code := fun x => e (Res.code_inj _ _ x).symm
      simp [e, this]

theorem flip_flip (S k : ℕ) : S ^^^ 2 ^ k ^^^ 2 ^ k = S := by rw [Nat.xor_assoc, Nat.xor_self, Nat.xor_zero]

omit [FloatOps F] in
theorem held_flip (c : Dev nD) {S : ℕ} {r : Res} (h : S.testBit r.code = false) :
    held m c (S ^^^ 2 ^ r.code) = iprop(r.own m c ∗ held m c S) := by
  unfold held
  rw [(members_flip h).2, bigSep_insert (members_flip h).1]
  rfl

omit [FloatOps F] in
theorem take_ok (c : Dev nD) : ∀ (l : List Res) {S S' : ℕ}, take l S = some S' → held m c S ⊢ iprop(holds m c l ∗ held m c S')
  | [], S, S', h => by
    rw [← Option.some.inj h, holds_none]
    iintro H
    isplitr; · iempintro
    iexact H
  | r :: l, S, S', h => by
    unfold take at h
    cases e : S.testBit r.code with
    | false => rw [e] at h; exact absurd h (by simp)
    | true =>
      rw [e, if_pos rfl] at h
      have e' : (S ^^^ 2 ^ r.code).testBit r.code = false := by rw [Nat.testBit_xor, Nat.testBit_two_pow, e]; simp
      have hf := held_flip m c e'
      rw [flip_flip] at hf
      rw [hf, holds_cons]
      iintro ⟨Hr, HS⟩
      ihave H := (take_ok c l h) $$ HS
      icases H with ⟨Hl, HS⟩
      isplitl [Hr Hl]
      · isplitl [Hr]; · iexact Hr
        iexact Hl
      iexact HS

omit [FloatOps F] in
theorem put_ok (c : Dev nD) : ∀ (l : List Res) {S S' : ℕ}, put l S = some S' → iprop(holds m c l ∗ held m c S) ⊢ held m c S'
  | [], S, S', h => by
    rw [← Option.some.inj h]
    iintro ⟨-, H⟩
    iexact H
  | r :: l, S, S', h => by
    unfold put at h
    cases e : S.testBit r.code with
    | true => rw [e, if_pos rfl] at h; exact absurd h (by simp)
    | false =>
      rw [e] at h
      rw [holds_cons]
      iintro ⟨⟨Hr, Hl⟩, HS⟩
      iapply (put_ok c l h)
      isplitl [Hl]; · iexact Hl
      rw [held_flip m c e]
      isplitl [Hr]; · iexact Hr
      iexact HS

/-! ## Running a list of steps -/

def exec : List Op → ℕ → Option ℕ
  | [], S => some S
  | o :: os, S => if above o.waits os then (take o.pre S).bind fun T => (put o.post T).bind fun U => exec os U else none

theorem exec_ok (K : Dev nD × Cell → ℕ) (c : Dev nD) (Ψ : PUnit → sProp 𝕄) : ∀ (os : List Op) {S S' : ℕ}, exec os S = some S' →
    iprop(records m K ∗ held m c S ∗ owing c os)
      ⊢ iprop((iprop(held m c S' ∗ owing c []) -∗ Ψ ⟨⟩)
          -∗ wp frame (wpE (defs₀ (F := F)) 𝒱₀ (c : Thread nD τ) none) Set.univ (run c os) Ψ)
  | [], S, S', h => by
    rw [← Option.some.inj h]
    unfold run
    rw [Prog.pure_eq_ret, wp_ret]
    iintro ⟨-, HS, HO⟩ Hk
    imodintro
    iapply Hk
    isplitl [HS]; · iexact HS
    iexact HO
  | o :: os, S, S', h => by
    unfold exec at h
    cases ha : above o.waits os with
    | false => rw [ha] at h; exact absurd h (by simp)
    | true =>
      rw [ha, if_pos rfl] at h
      obtain ⟨T, hT, h⟩ := Option.bind_eq_some_iff.mp h
      obtain ⟨U, hU, h⟩ := Option.bind_eq_some_iff.mp h
      iintro ⟨#HR, HS, HO⟩ Hk
      ihave H := (take_ok m c o.pre hT) $$ HS
      icases H with ⟨Hp, HT⟩
      unfold run
      iapply (step_ok m K c o os ha (fun _ => run c os) Ψ) $$ [Hp HO]
      · isplitr; · iexact HR
        isplitl [Hp]; · iexact Hp
        iexact HO
      iintro ⟨Hq, HO⟩
      iapply (exec_ok K c Ψ os h) $$ [Hq HT HO]
      · isplitr; · iexact HR
        isplitl [Hq HT]
        · iapply (put_ok m c o.post hU)
          isplitl [Hq]; · iexact Hq
          iexact HT
        iexact HO
      iexact Hk

/-! ## The body -/

abbrev four : List (Fin 4) := [0, 1, 2, 3]
abbrev five : List (Fin 5) := [0, 1, 2, 3, 4]
abbrev sixteen : List (Fin 16) := [0, 1, 2, 3, 4, 5, 6, 7, 8, 9, 10, 11, 12, 13, 14, 15]

/-- Every block: the device's own quarter, and what the transfers land. -/
def slots : List Slot := four.map (.qm 0) ++ sends.map Xfer.dst

/-- What a device starts from, -/
def start : List Res :=
  sends.map .toSend ++ sends.map .toRecv ++ four.map .toSig ++ [.toMeet] ++ four.map .lend ++ four.map .bare
    ++ four.map .arg ++ [.plane] ++ five.map .semIn ++ sixteen.map .semOut ++ sends.map .outBare ++ [.ownBare]

/-- and ends with. -/
def finish : List Res :=
  slots.flatMap parts ++ four.map .arg ++ [.plane] ++ five.map .semIn ++ sixteen.map .semOut ++ sends.map .out ++ [.ownDone]
    ++ sends.map .zS ++ sends.map .zR ++ [.zB]

theorem plan_ok : ((put start 0).bind fun S => (exec steps S).bind fun T => take finish T) = some 0 := by decide +kernel

/-- The steps run from `start` to `finish`, paying all the device owes. -/
theorem steps_run (K : Dev nD × Cell → ℕ) (c : Dev nD) (Ψ : PUnit → sProp 𝕄) :
    iprop(records m K ∗ holds m c start ∗ owing c steps)
      ⊢ iprop((iprop(holds m c finish ∗ owing c []) -∗ Ψ ⟨⟩)
          -∗ wp frame (wpE (defs₀ (F := F)) 𝒱₀ (c : Thread nD τ) none) Set.univ (run c steps) Ψ) := by
  obtain ⟨S, hS, h⟩ := Option.bind_eq_some_iff.mp plan_ok
  obtain ⟨T, hT, hU⟩ := Option.bind_eq_some_iff.mp h
  iintro ⟨#HR, Hs, HO⟩ Hk
  iapply (exec_ok m K c Ψ steps hT) $$ [Hs HO]
  · isplitr; · iexact HR
    isplitl [Hs]
    · iapply (put_ok m c start hS)
      isplitl [Hs]; · iexact Hs
      have h0 : members 0 = ∅ := by unfold members; simp
      unfold held
      rw [h0, bigSep_empty]
      iempintro
    iexact HO
  iintro ⟨HT, HO⟩
  iapply Hk
  isplitl [HT]
  · ihave H := (take_ok m c finish hU) $$ HT
    icases H with ⟨Hf, -⟩
    iexact Hf
  iexact HO

end Cert.Gather
-- ==== Proof.Buffers.lean ====
/-
  The buffers of a device as its resources.

  At launch a device holds its argument, its result buffer and its five scratch buffers whole. Here each is cut into the
  resources of Steps.lean, and put together again: the argument by shares (`arg_eq`), the result by rows (`out_eq`), the
  scratch by blocks (`scratch_open`, `scratch_close`).
-/
module

public import proofs.«01_k».proof.Proof.Exec
public import Idealize.ShloMosaic.Lib.Ring

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)
open Idealize.ShloMosaic.Ring (pointsTo_blocks pointsTo_blocks_join_exists)

variable {F : FTy → Type} [FloatOps F]

local notation "𝕄" => MT nD τ sig Unit (Elt F) ℕ UU ℕ

variable (m : (ℓ : Loc nD τ sig) → Buf (Elt F) ℓ) (ρ : Dev nD → PrngReg)

/-! ## Lists of resources as sets -/

omit [FloatOps F] in
theorem holds_append (c : Dev nD) (l l' : List Res) : holds m c (l ++ l') = iprop(holds m c l ∗ holds m c l') := bigSepL_append _ _ _

omit [FloatOps F] in
/-- The resources a list that has everything once names. -/
theorem holds_map {I : Type} [Fintype I] [DecidableEq I] (c : Dev nD) (l : List I) (hu : Finset.univ = l.toFinset) (hn : l.Nodup) (f : I → Res) :
    holds m c (l.map f) = (bigSep Finset.univ fun i => (f i).own m c : sProp 𝕄) := by
  unfold holds
  rw [bigSepL_map, bigSep_univ_eq_bigSepL l hu hn]

theorem univ_four : (Finset.univ : Finset (Fin 4)) = four.toFinset := by decide +kernel
theorem univ_five : (Finset.univ : Finset (Fin 5)) = five.toFinset := by decide +kernel
theorem univ_sixteen : (Finset.univ : Finset (Fin 16)) = sixteen.toFinset := by decide +kernel
theorem univ_sends : (Finset.univ : Finset Xfer) = sends.toFinset := by decide +kernel
theorem univ_slots : (Finset.univ : Finset Slot) = slots.toFinset := by decide +kernel

omit [FloatOps F] in
theorem holds_four (c : Dev nD) (f : Fin 4 → Res) : holds m c (four.map f) = (bigSep Finset.univ fun i => (f i).own m c : sProp 𝕄) :=
  holds_map m c four univ_four (by decide) f
omit [FloatOps F] in
theorem holds_five (c : Dev nD) (f : Fin 5 → Res) : holds m c (five.map f) = (bigSep Finset.univ fun i => (f i).own m c : sProp 𝕄) :=
  holds_map m c five univ_five (by decide) f
omit [FloatOps F] in
theorem holds_sixteen (c : Dev nD) (f : Fin 16 → Res) : holds m c (sixteen.map f) = (bigSep Finset.univ fun i => (f i).own m c : sProp 𝕄) :=
  holds_map m c sixteen univ_sixteen (by decide) f
omit [FloatOps F] in
theorem holds_sends (c : Dev nD) (f : Xfer → Res) : holds m c (sends.map f) = (bigSep Finset.univ fun t => (f t).own m c : sProp 𝕄) :=
  holds_map m c sends univ_sends sends_nodup f

/-! ## The argument -/

/-- What no copy reads of the shares kept for the four blocks' copies. -/
def argRest (c : Dev nD) : sProp 𝕄 :=
  bigSep Finset.univ fun j : Fin 4 =>
    (inM c j).view.loc (c : Thread nD τ) ↦[Finset.univ \ (inM c j).view.set]{leaf 2 fullShare.right j} m ((inM c j).view.loc (c : Thread nD τ))

omit [FloatOps F] in
theorem arg_eq (c : Dev nD) :
    ((c : Thread nD τ).loc main_arg0 ↦{fullShare} m ((c : Thread nD τ).loc main_arg0) : sProp 𝕄)
      = iprop(planePts m c ∗ (bigSep Finset.univ fun j : Fin 4 => argPts m c j) ∗ argRest m c) := by
  have h : ((c : Thread nD τ).loc main_arg0 ↦{fullShare} m ((c : Thread nD τ).loc main_arg0) : sProp 𝕄)
      = iprop(((c : Thread nD τ).loc main_arg0 ↦{fullShare.left} m ((c : Thread nD τ).loc main_arg0))
          ∗ ((c : Thread nD τ).loc main_arg0 ↦{fullShare.right} m ((c : Thread nD τ).loc main_arg0))) :=
    let h := pointsTo_share (PosShare.mem_left_op_right fullShare); Entails.antisymm h.1 h.2
  have hl : ((c : Thread nD τ).loc main_arg0 ↦{fullShare.right} m ((c : Thread nD τ).loc main_arg0) : sProp 𝕄)
      = iprop((bigSep Finset.univ fun j : Fin 4 => argPts m c j) ∗ argRest m c) := by
    unfold argPts argRest
    rw [← bigSep_sep']
    refine (ShareLeaves.pointsTo_leaves _ _ 2 fullShare.right).trans (bigSep_congr fun j _ => ?_)
    have h := pointsTo_split_subset (ℓ := (inM c j).view.loc (c : Thread nD τ)) (q := leaf 2 fullShare.right j) (f := m ((inM c j).view.loc (c : Thread nD τ)))
      (Ix := Unit) (Name := ℕ) (U := UU) (Lvl := ℕ) (Finset.subset_univ (inM c j).view.set)
    exact Entails.antisymm h.1 h.2
  have hp : (planePts m c : sProp 𝕄) = ((c : Thread nD τ).loc main_arg0 ↦{fullShare.left} m ((c : Thread nD τ).loc main_arg0)) := by
    unfold planePts
    rw [show (Memref.whole main_arg0 : Memref sig .tc _ _ _).view.set = Finset.univ from View.set_whole main_arg0]
  rw [h, hl, hp]

/-! ## The result -/

omit [FloatOps F] in
theorem out_eq (c : Dev nD) (f : Buf (Elt F) ((c : Thread nD τ).loc main_v1)) :
    ((c : Thread nD τ).loc main_v1 ↦{fullShare} f : sProp 𝕄) = iprop(ownPts c f ∗ bigSep Finset.univ fun t : Xfer => outPts c t f) := by
  rw [pointsTo_blocks (rows c) (rows_disjoint c) (rows_whole c) f,
    bigSep_univ_eq_bigSepL (none :: sends.map some) (by decide +kernel) (by decide +kernel), bigSepL_cons', bigSepL_map,
    bigSep_univ_eq_bigSepL sends univ_sends sends_nodup]
  rfl

/-! ## The scratch -/

section Blocks
variable {a b : ℕ}

theorem mem_block (r j : ℕ) (inb) (i : (⟨4, ![a, b, 256, 1024]⟩ : Shape).Idx) :
    i ∈ (Rect.unit (s := ⟨4, ![a, b, 256, 1024]⟩) ![r, j, 0, 0] S1x1x256x1024.size inb).set ↔ (i 0).val = r ∧ (i 1).val = j := by
  have h2 : (i 2).val < 256 := (i 2).isLt
  have h3 : (i 3).val < 1024 := (i 3).isLt
  refine Rect.mem_set_unit.trans ⟨fun h => ?_, fun h x => ?_⟩
  · have h0 : r ≤ (i 0).val ∧ (i 0).val < r + 1 := h 0
    have h1 : j ≤ (i 1).val ∧ (i 1).val < j + 1 := h 1
    omega
  · match x with
    | ⟨0, _⟩ => exact (show r ≤ (i 0).val ∧ (i 0).val < r + 1 by omega)
    | ⟨1, _⟩ => exact (show j ≤ (i 1).val ∧ (i 1).val < j + 1 by omega)
    | ⟨2, _⟩ => exact (show 0 ≤ (i 2).val ∧ (i 2).val < 0 + 256 by omega)
    | ⟨3, _⟩ => exact (show 0 ≤ (i 3).val ∧ (i 3).val < 0 + 1024 by omega)

variable (I : Fin a × Fin b → Finset (⟨4, ![a, b, 256, 1024]⟩ : Shape).Idx) (hI : ∀ p i, i ∈ I p ↔ (i 0).val = p.1.val ∧ (i 1).val = p.2.val)
include hI

theorem blocks_disjoint : ∀ p p', p ≠ p' → Disjoint (I p) (I p') := fun p p' h =>
  Finset.disjoint_left.mpr fun i hi hi' => h (Prod.ext (Fin.ext (((hI p i).mp hi).1.symm.trans ((hI p' i).mp hi').1))
    (Fin.ext (((hI p i).mp hi).2.symm.trans ((hI p' i).mp hi').2)))
theorem blocks_whole : Finset.univ.biUnion I = Finset.univ :=
  Finset.eq_univ_iff_forall.mpr fun i => Finset.mem_biUnion.mpr ⟨((i 0 : Fin a), (i 1 : Fin b)), Finset.mem_univ _, (hI _ i).mpr ⟨rfl, rfl⟩⟩

end Blocks

omit [FloatOps F] in
/-- A buffer held whole at some contents is its blocks, each held at some contents. -/
theorem blocks_eq {ℓ : Loc nD τ sig} {B : Type} [Fintype B] [DecidableEq B] (I : B → Finset (Idx ℓ)) (hd : ∀ p p', p ≠ p' → Disjoint (I p) (I p'))
    (hw : Finset.univ.biUnion I = Finset.univ) (f₀ : Buf (Elt F) ℓ) :
    (iprop(∃ f : Buf (Elt F) ℓ, ℓ ↦{fullShare} f) : sProp 𝕄) = bigSep Finset.univ fun p => iprop(∃ f : Buf (Elt F) ℓ, ℓ ↦[I p]{fullShare} f) := by
  refine Entails.antisymm ?_ (pointsTo_blocks_join_exists I hd hw f₀)
  show iprop(∃ f : Buf (Elt F) ℓ, ℓ ↦{fullShare} f) ⊢ (bigSep Finset.univ fun p => iprop(∃ f : Buf (Elt F) ℓ, ℓ ↦[I p]{fullShare} f) : sProp 𝕄)
  iintro ⟨%f, H⟩
  ihave H := (Entails.of_eq (pointsTo_blocks (Ix := Unit) (Name := ℕ) (U := UU) (Lvl := ℕ) I hd hw f)) $$ H
  have he : ∀ p, (ℓ ↦[I p]{fullShare} f : sProp 𝕄) ⊢ iprop(∃ f : Buf (Elt F) ℓ, ℓ ↦[I p]{fullShare} f) := fun p => by
    iintro H
    iexists f
    iexact H
  iapply (show (bigSep Finset.univ fun p => (ℓ ↦[I p]{fullShare} f : sProp 𝕄)) ⊢ bigSep Finset.univ fun p => iprop(∃ f : Buf (Elt F) ℓ, ℓ ↦[I p]{fullShare} f)
    from bigSep_mono fun p _ => he p)
  iexact H

theorem mem_qm (p : Fin 4 × Fin 4) (i : S4x4x256x1024.Idx) : i ∈ (Slot.qm p.1 p.2).m.view.set ↔ (i 0).val = p.1.val ∧ (i 1).val = p.2.val := by
  have hs : (Slot.qm p.1 p.2).m.view.set = (Rect.unit (s := S4x4x256x1024) ![p.1.val, p.2.val, 0, 0] S1x1x256x1024.size (inb_qm p.1 p.2)).set :=
    (View.set_reshape _ _).trans (View.set_slice_whole cc0_scratch0 _)
  exact (iff_of_eq (congrArg (fun S : Finset S4x4x256x1024.Idx => i ∈ S) hs)).trans (mem_block _ _ _ i)
theorem mem_qx (p : Fin 3 × Fin 4) (i : S3x4x256x1024.Idx) : i ∈ (Slot.qx p.1 p.2).m.view.set ↔ (i 0).val = p.1.val ∧ (i 1).val = p.2.val := by
  have hs : (Slot.qx p.1 p.2).m.view.set = (Rect.unit (s := S3x4x256x1024) ![p.1.val, p.2.val, 0, 0] S1x1x256x1024.size (inb_q p.1 p.2)).set :=
    (View.set_reshape _ _).trans (View.set_slice_whole cc0_scratch1 _)
  exact (iff_of_eq (congrArg (fun S : Finset S3x4x256x1024.Idx => i ∈ S) hs)).trans (mem_block _ _ _ i)
theorem mem_qy (p : Fin 3 × Fin 4) (i : S3x4x256x1024.Idx) : i ∈ (Slot.qy p.1 p.2).m.view.set ↔ (i 0).val = p.1.val ∧ (i 1).val = p.2.val := by
  have hs : (Slot.qy p.1 p.2).m.view.set = (Rect.unit (s := S3x4x256x1024) ![p.1.val, p.2.val, 0, 0] S1x1x256x1024.size (inb_q p.1 p.2)).set :=
    (View.set_reshape _ _).trans (View.set_slice_whole cc0_scratch2 _)
  exact (iff_of_eq (congrArg (fun S : Finset S3x4x256x1024.Idx => i ∈ S) hs)).trans (mem_block _ _ _ i)
theorem mem_dx (p : Fin 3 × Fin 2) (i : S3x2x256x1024.Idx) : i ∈ (Slot.dx p.1 p.2).m.view.set ↔ (i 0).val = p.1.val ∧ (i 1).val = p.2.val := by
  have hs : (Slot.dx p.1 p.2).m.view.set = (Rect.unit (s := S3x2x256x1024) ![p.1.val, p.2.val, 0, 0] S1x1x256x1024.size (inb_d p.1 p.2)).set :=
    (View.set_reshape _ _).trans (View.set_slice_whole cc0_scratch3 _)
  exact (iff_of_eq (congrArg (fun S : Finset S3x2x256x1024.Idx => i ∈ S) hs)).trans (mem_block _ _ _ i)
theorem mem_dy (p : Fin 3 × Fin 2) (i : S3x2x256x1024.Idx) : i ∈ (Slot.dy p.1 p.2).m.view.set ↔ (i 0).val = p.1.val ∧ (i 1).val = p.2.val := by
  have hs : (Slot.dy p.1 p.2).m.view.set = (Rect.unit (s := S3x2x256x1024) ![p.1.val, p.2.val, 0, 0] S1x1x256x1024.size (inb_d p.1 p.2)).set :=
    (View.set_reshape _ _).trans (View.set_slice_whole cc0_scratch4 _)
  exact (iff_of_eq (congrArg (fun S : Finset S3x2x256x1024.Idx => i ∈ S) hs)).trans (mem_block _ _ _ i)

omit [FloatOps F] in
include m in
/-- A buffer of blocks. -/
theorem buf_qm (c : Dev nD) : (iprop(∃ f : Buf (Elt F) ((c : Thread nD τ).loc cc0_scratch0), (c : Thread nD τ).loc cc0_scratch0 ↦{fullShare} f) : sProp 𝕄)
    = bigSep Finset.univ fun p : Fin 4 × Fin 4 => blank c (.qm p.1 p.2) :=
  blocks_eq (ℓ := (c : Thread nD τ).loc cc0_scratch0) (fun p : Fin 4 × Fin 4 => (Slot.qm p.1 p.2).m.view.set)
    (blocks_disjoint _ mem_qm) (blocks_whole _ mem_qm) (m _)
omit [FloatOps F] in
include m in
theorem buf_qx (c : Dev nD) : (iprop(∃ f : Buf (Elt F) ((c : Thread nD τ).loc cc0_scratch1), (c : Thread nD τ).loc cc0_scratch1 ↦{fullShare} f) : sProp 𝕄)
    = bigSep Finset.univ fun p : Fin 3 × Fin 4 => blank c (.qx p.1 p.2) :=
  blocks_eq (ℓ := (c : Thread nD τ).loc cc0_scratch1) (fun p : Fin 3 × Fin 4 => (Slot.qx p.1 p.2).m.view.set)
    (blocks_disjoint _ mem_qx) (blocks_whole _ mem_qx) (m _)
omit [FloatOps F] in
include m in
theorem buf_qy (c : Dev nD) : (iprop(∃ f : Buf (Elt F) ((c : Thread nD τ).loc cc0_scratch2), (c : Thread nD τ).loc cc0_scratch2 ↦{fullShare} f) : sProp 𝕄)
    = bigSep Finset.univ fun p : Fin 3 × Fin 4 => blank c (.qy p.1 p.2) :=
  blocks_eq (ℓ := (c : Thread nD τ).loc cc0_scratch2) (fun p : Fin 3 × Fin 4 => (Slot.qy p.1 p.2).m.view.set)
    (blocks_disjoint _ mem_qy) (blocks_whole _ mem_qy) (m _)
omit [FloatOps F] in
include m in
theorem buf_dx (c : Dev nD) : (iprop(∃ f : Buf (Elt F) ((c : Thread nD τ).loc cc0_scratch3), (c : Thread nD τ).loc cc0_scratch3 ↦{fullShare} f) : sProp 𝕄)
    = bigSep Finset.univ fun p : Fin 3 × Fin 2 => blank c (.dx p.1 p.2) :=
  blocks_eq (ℓ := (c : Thread nD τ).loc cc0_scratch3) (fun p : Fin 3 × Fin 2 => (Slot.dx p.1 p.2).m.view.set)
    (blocks_disjoint _ mem_dx) (blocks_whole _ mem_dx) (m _)
omit [FloatOps F] in
include m in
theorem buf_dy (c : Dev nD) : (iprop(∃ f : Buf (Elt F) ((c : Thread nD τ).loc cc0_scratch4), (c : Thread nD τ).loc cc0_scratch4 ↦{fullShare} f) : sProp 𝕄)
    = bigSep Finset.univ fun p : Fin 3 × Fin 2 => blank c (.dy p.1 p.2) :=
  blocks_eq (ℓ := (c : Thread nD τ).loc cc0_scratch4) (fun p : Fin 3 × Fin 2 => (Slot.dy p.1 p.2).m.view.set)
    (blocks_disjoint _ mem_dy) (blocks_whole _ mem_dy) (m _)

/-- The blocks by buffer. -/
def slotOf : (Fin 4 × Fin 4) ⊕ (Fin 3 × Fin 4) ⊕ (Fin 3 × Fin 4) ⊕ (Fin 3 × Fin 2) ⊕ (Fin 3 × Fin 2) → Slot
  | .inl p => .qm p.1 p.2
  | .inr (.inl p) => .qx p.1 p.2
  | .inr (.inr (.inl p)) => .qy p.1 p.2
  | .inr (.inr (.inr (.inl p))) => .dx p.1 p.2
  | .inr (.inr (.inr (.inr p))) => .dy p.1 p.2

theorem slotOf_bijective : Function.Bijective slotOf := by
  constructor
  · decide +kernel
  · intro s
    cases s with
    | qm r j => exact ⟨.inl (r, j), rfl⟩
    | qx r j => exact ⟨.inr (.inl (r, j)), rfl⟩
    | qy r j => exact ⟨.inr (.inr (.inl (r, j))), rfl⟩
    | dx r j => exact ⟨.inr (.inr (.inr (.inl (r, j)))), rfl⟩
    | dy r j => exact ⟨.inr (.inr (.inr (.inr (r, j)))), rfl⟩

omit [FloatOps F] in
include m in
/-- The scratch a device has is its blocks. -/
theorem scratch_eq (c : Dev nD) :
    (Pipeline.scopedRest (Ix := Unit) (Name := ℕ) (U := UU) (Lvl := ℕ) (Val := Elt F) cfg0.spec c : sProp 𝕄) = bigSep Finset.univ fun b : Slot => blank c b := by
  rw [scopedRest0_eq, buf_qm m c, buf_qx m c, buf_qy m c, buf_dx m c, buf_dy m c,
    bigSep_univ_equiv (Equiv.ofBijective slotOf slotOf_bijective), bigSep_univ_sum, bigSep_univ_sum, bigSep_univ_sum, bigSep_univ_sum]
  rfl

omit [FloatOps F] in
theorem lends_eq (c : Dev nD) : (bigSep Finset.univ fun i : Fin 4 => lendOut c i : sProp 𝕄) = bigSep Finset.univ fun t : Xfer => blank c t.dst := by
  unfold lendOut
  rw [← bigSep_biUnion_eq]
  · congr 1
    ext t; simp
  · intro i _ j _ h
    exact Finset.disjoint_filter.mpr fun t _ hi hj => h (hi.symm.trans hj)

omit [FloatOps F] in
/-- The scratch at launch: what the signals lend, and the blocks of the device's own quarter. -/
theorem scratch_open (c : Dev nD) :
    (Pipeline.scopedRest (Ix := Unit) (Name := ℕ) (U := UU) (Lvl := ℕ) (Val := Elt F) cfg0.spec c : sProp 𝕄)
      = iprop(holds m c (four.map .lend) ∗ holds m c (four.map .bare)) := by
  rw [holds_four, holds_four, scratch_eq m c, bigSep_univ_eq_bigSepL slots univ_slots (by decide +kernel)]
  simp only [Res.own]
  rw [lends_eq, bigSep_univ_eq_bigSepL sends univ_sends sends_nodup, bigSep_univ_eq_bigSepL four univ_four (by decide)]
  unfold slots
  rw [bigSepL_append, bigSepL_map, bigSepL_map]
  exact Entails.antisymm (sep_comm (PROP := sProp 𝕄)).1 (sep_comm (PROP := sProp 𝕄)).1

omit [FloatOps F] in
theorem holds_filled (c : Dev nD) : ∀ l : List Slot, holds m c (l.flatMap parts) = (bigSepL l fun b => filled m c b fullShare : sProp 𝕄)
  | [] => rfl
  | b :: l => by
    rw [List.flatMap_cons, holds_append, holds_filled c l, bigSepL_cons', holds_parts]

omit [FloatOps F] in
/-- The scratch at the end: every block filled. -/
theorem scratch_close (c : Dev nD) :
    holds m c (slots.flatMap parts) ⊢ (Pipeline.scopedRest (Ix := Unit) (Name := ℕ) (U := UU) (Lvl := ℕ) (Val := Elt F) cfg0.spec c : sProp 𝕄) := by
  rw [holds_filled, scratch_eq m c, ← bigSep_univ_eq_bigSepL slots univ_slots (by decide +kernel)]
  refine bigSep_mono fun b _ => show filled m c b fullShare ⊢ blank c b from ?_
  unfold filled blank
  iintro H
  iexists (can m c b)
  iexact H

end Cert.Gather
-- ==== Proof.Deal.lean ====
/-
  What the launch deals to each device.

  The cells' invariants and first rounds are made for all devices at once and shared. The tokens of the duties are made
  with the cells they belong to, and handed to the devices that pay them (`toks_around`): a barrier cell's to its four
  neighbours, a receiver's to the sender. The counters no cell uses are the local copies'.
-/
module

public import proofs.«01_k».proof.Proof.Buffers

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## The neighbours as permutations of the devices -/

set_option backward.proofsInPublic true in
/-- Where a transfer goes, -/
def toEquiv (t : Xfer) : Dev nD ≃ Dev nD where
  toFun c := t.to c
  invFun c := sigTo c t.via
  left_inv c := sigTo_to t c
  right_inv c := to_sigTo t c

theorem sig_bijective : ∀ i : Fin 4, Function.Bijective fun c => sigTo c i := fun i =>
  (Fintype.bijective_iff_injective_and_card _).mpr ⟨fun a b => (by decide +kernel : ∀ (i : Fin 4) (a b : Dev nD), sigTo a i = sigTo b i → a = b) i a b, rfl⟩
/-- and where a signal goes. -/
def sigEquiv (i : Fin 4) : Dev nD ≃ Dev nD := Equiv.ofBijective (fun c => sigTo c i) (sig_bijective i)

/-! ## The cells and the tokens -/

theorem kcell_injective : Function.Injective (kcell : Dev nD × Cell → GSem nD τ sig) := by
  rintro ⟨c, k⟩ ⟨c', k'⟩ h
  have h1 : c = c' := congrArg (fun g : GSem nD τ sig => g.1.1) h
  have h2 : k = k' := csem_injective (congrArg Prod.snd h)
  rw [h1, h2]

def allCells : Finset (GSem nD τ sig) := Finset.univ.map ⟨kcell, kcell_injective⟩

/-- A token: a device's barrier cell's, for each of the four who signal it, and one for each end of a transfer. -/
abbrev Tok : Type := Fin 4 ⊕ (Xfer ⊕ Xfer)

def tokOf : Dev nD × Tok → GSem nD τ sig × ℕ × Fin 4
  | (c, .inl i) => (barCell c, 0, i)
  | (c, .inr (.inl t)) => (sCell c t, 0, 0)
  | (c, .inr (.inr t)) => (rCell c t, 0, 0)

/-- The cell and the payer of a token, apart from its device. -/
def tokKey : Tok → Cell × Fin 4
  | .inl i => (none, i)
  | .inr (.inl t) => (some (false, t), 0)
  | .inr (.inr t) => (some (true, t), 0)

theorem tokKey_injective : Function.Injective tokKey := by
  rintro (i | t | t) (i' | t' | t') h <;> cases h <;> rfl

theorem tokOf_eq (c : Dev nD) (k : Tok) : tokOf (c, k) = (kcell (c, (tokKey k).1), 0, (tokKey k).2) := by
  rcases k with i | t | t <;> rfl

theorem tokOf_injective : Function.Injective tokOf := by
  rintro ⟨c, k⟩ ⟨c', k'⟩ h
  rw [tokOf_eq, tokOf_eq] at h
  have hk : (c, (tokKey k).1) = (c', (tokKey k').1) := kcell_injective (congrArg Prod.fst h)
  have hd : (tokKey k).2 = (tokKey k').2 := congrArg (fun x : GSem nD τ sig × ℕ × Fin 4 => x.2.2) h
  have hc : c = c' := congrArg Prod.fst hk
  rw [hc, tokKey_injective (Prod.ext (congrArg Prod.snd hk) hd)]

def allToks : Finset (GSem nD τ sig × ℕ × Fin 4) := Finset.univ.map ⟨tokOf, tokOf_injective⟩

/-- The launch's ghost state: the region's own, and the schedule's at its start. -/
def u₀ : UU :=
  (initOf (Pipeline.cells cfgs cellOf_inj) (Pipeline.launchToks cfgs cellOf_inj), (initOf allCells allToks, 1))

/-- The tokens of device `c`'s cells, -/
def toks (c : Dev nD) : sProp 𝕄 :=
  iprop((bigSep Finset.univ fun i : Fin 4 => dutyTok ER (barCell c) 0 i)
    ∗ (bigSep Finset.univ fun t : Xfer => dutyTok ER (sCell c t) 0 0) ∗ bigSep Finset.univ fun t : Xfer => dutyTok ER (rCell c t) 0 0)
/-- and those of the duties it pays. -/
def payToks (c : Dev nD) : sProp 𝕄 :=
  iprop((bigSep Finset.univ fun i : Fin 4 => dutyTok ER (barCell (sigTo c i)) 0 i)
    ∗ (bigSep Finset.univ fun t : Xfer => dutyTok ER (sCell c t) 0 0) ∗ bigSep Finset.univ fun t : Xfer => dutyTok ER (rCell (t.to c) t) 0 0)

omit [FloatOps F] in
theorem toks_around : (bigSep Finset.univ fun c : Dev nD => (toks c : sProp 𝕄)) = bigSep Finset.univ fun c : Dev nD => payToks c := by
  unfold toks payToks
  rw [bigSep_sep', bigSep_sep', bigSep_sep', bigSep_sep']
  have h1 : (bigSep Finset.univ fun c : Dev nD => bigSep Finset.univ fun i : Fin 4 => dutyTok ER (barCell c) 0 i : sProp 𝕄)
      = bigSep Finset.univ fun c : Dev nD => bigSep Finset.univ fun i : Fin 4 => dutyTok ER (barCell (sigTo c i)) 0 i := by
    rw [bigSep_univ_comm, bigSep_univ_comm (fun c : Dev nD => fun i : Fin 4 => (dutyTok ER (barCell (sigTo c i)) 0 i : sProp 𝕄))]
    exact bigSep_congr fun i _ => bigSep_univ_equiv (sigEquiv i) _
  have h2 : (bigSep Finset.univ fun c : Dev nD => bigSep Finset.univ fun t : Xfer => dutyTok ER (rCell c t) 0 0 : sProp 𝕄)
      = bigSep Finset.univ fun c : Dev nD => bigSep Finset.univ fun t : Xfer => dutyTok ER (rCell (t.to c) t) 0 0 := by
    rw [bigSep_univ_comm, bigSep_univ_comm (fun c : Dev nD => fun t : Xfer => (dutyTok ER (rCell (t.to c) t) 0 0 : sProp 𝕄))]
    exact bigSep_congr fun t _ => bigSep_univ_equiv (toEquiv t) _
  rw [h1, h2]

omit [FloatOps F] in
/-- A device's cells by kind. -/
theorem bigSep_cell (Φ : Cell → sProp 𝕄) : bigSep Finset.univ Φ
    = iprop(Φ none ∗ (bigSep Finset.univ fun t : Xfer => Φ (some (false, t))) ∗ bigSep Finset.univ fun t : Xfer => Φ (some (true, t))) := by
  rw [bigSep_univ_eq_bigSepL (none :: ((sends.map fun t => some (false, t)) ++ sends.map fun t => some (true, t))) (by decide +kernel) (by decide +kernel),
    bigSepL_cons', bigSepL_append, bigSepL_map, bigSepL_map, bigSep_univ_eq_bigSepL sends univ_sends sends_nodup, bigSep_univ_eq_bigSepL sends univ_sends sends_nodup]

/-! ## The semaphores -/

/-- The kernel's own semaphores, every one it copies with; -/
def osem : Fin 117 → SemLoc sig := fun i => .dma i
theorem ownSemFacts : Pipeline.OwnSemFacts cfg0.spec osem where
  isScoped := by decide +kernel
  inj := fun a b h => SemLoc.dma.inj h
  disj := fun k w => w.elim0

/-- by what they are for. -/
def semOf : (Xfer ⊕ Xfer) ⊕ (Fin 5 ⊕ Fin 16) → Fin 117
  | .inl (.inl t) => t.ssem
  | .inl (.inr t) => t.rsem
  | .inr (.inl j) => inSem j
  | .inr (.inr p) => sem16 cc0_scratch15 p

theorem semOf_bijective : Function.Bijective semOf :=
  (Fintype.bijective_iff_injective_and_card _).mpr ⟨by decide +kernel, by decide +kernel⟩

/-- The counters of the local copies, at zero. -/
def localSems (c : Dev nD) : sProp 𝕄 :=
  iprop((bigSep Finset.univ fun j : Fin 5 => semVal ((c : Thread nD τ), .dma (inSem j)) 0)
    ∗ bigSep Finset.univ fun p : Fin 16 => semVal ((c : Thread nD τ), .dma (sem16 cc0_scratch15 p)) 0)

omit [FloatOps F] in
theorem ownSems0_eq (c : Dev nD) : (Pipeline.ownSems0 (Ix := Unit) (Name := ℕ) (U := UU) (Lvl := ℕ) (Val := Elt F) (τ := τ) osem c : sProp 𝕄)
    = iprop(((bigSep Finset.univ fun t : Xfer => semVal (sCell c t) 0) ∗ bigSep Finset.univ fun t : Xfer => semVal (rCell c t) 0) ∗ localSems c) := by
  unfold Pipeline.ownSems0 localSems
  rw [bigSep_univ_equiv (Equiv.ofBijective semOf semOf_bijective), bigSep_univ_sum, bigSep_univ_sum, bigSep_univ_sum]
  rfl
omit [FloatOps F] in
theorem unscopedSems0_eq (c : Dev nD) : (unscopedSems0 c : sProp 𝕄) = semVal (barCell c) 0 := by
  unfold unscopedSems0
  rw [bigSep_eq_bigSepL_of_eq [SemLoc.reg barS] (by decide +kernel) (by decide)]
  rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (iprop((bigSep Finset.univ fun k : Cell => semVal (kcell (c, k)) 0) ∗ localSems c) : sProp 𝕄) := by
  rw [ownSems0_eq, unscopedSems0_eq, bigSep_cell]
  iintro ⟨⟨⟨HS, HV⟩, HL⟩, HB⟩
  isplitr [HL]
  · isplitl [HB]; · iexact HB
    isplitl [HS]; · iexact HS
    iexact HV
  iexact HL

/-! ## The deal -/

/-- What the launch's ghost state is for device `c`, -/
def G (c : Dev nD) : sProp 𝕄 :=
  iprop((bigSep Finset.univ fun k : Cell => roundState ER (sched m) (kcell (c, k)) 0)
    ∗ ((bigSep Finset.univ fun k : Cell => atPos ER (kcell (c, k)) 0 ∅ 0) ∗ bigSep Finset.univ fun k : Cell => reached ER (kcell (c, k)) 0) ∗ toks c)

/-- what all devices share, -/
def shared (K : Dev nD × Cell → ℕ) : sProp 𝕄 :=
  iprop((bigSep Finset.univ fun ck : Dev nD × Cell => cellInv ER (sched m) (K ck) (kcell ck))
    ∗ bigSep Finset.univ fun ck : Dev nD × Cell => reached ER (kcell ck) 0)
instance shared_persistent (K : Dev nD × Cell → ℕ) : BI.Persistent (shared (F := F) m K) := by unfold shared; infer_instance

/-- what stays with it alone, -/
def linear (c : Dev nD) : sProp 𝕄 :=
  iprop((bigSep Finset.univ fun k : Cell => atPos ER (kcell (c, k)) 0 ∅ 0) ∗ payToks c ∗ localSems c)

/-- and what it starts with of the two. -/
def G' (c : Dev nD) : sProp 𝕄 := iprop(∃ K : Dev nD × Cell → ℕ, shared m K ∗ linear c)

omit [FloatOps F] in
theorem fund_sched : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : Cell => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]
    exact bigSep_congr fun c _ => by unfold toks; rw [bigSep_univ_sum, bigSep_univ_sum]; rfl
  iintro HX
  imod (Rounds.fund ER (sched m) allCells allToks) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

omit [FloatOps F] in
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : Cell => iprop(∃ κ : ℕ, cellInv ER (sched m) κ (kcell (c, k))))
          ∗ (bigSep Finset.univ fun k : Cell => reached ER (kcell (c, k)) 0)
          ∗ (bigSep Finset.univ fun k : Cell => atPos ER (kcell (c, k)) 0 ∅ 0) ∗ toks c ∗ localSems c) := by
  unfold G
  iintro ⟨Hos, Hus, Hst, ⟨Hat, Hr⟩, Htok⟩
  ihave Hv := (sems0_eq (F := F) c) $$ [Hos Hus]
  · isplitl [Hos] <;> iassumption
  icases Hv with ⟨Hv, HL⟩
  imod (show iprop((bigSep Finset.univ fun k : Cell => semVal (kcell (c, k)) 0) ∗ bigSep Finset.univ fun k : Cell => roundState ER (sched m) (kcell (c, k)) 0)
      ⊢ (|={Set.univ}=> bigSep Finset.univ fun k : Cell => iprop(∃ κ : ℕ, cellInv ER (sched m) κ (kcell (c, k))) : sProp 𝕄) from by
        rw [← bigSep_sep']
        exact (bigSep_mono fun k _ => (Rounds.body_intro ER (sched m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  isplitl [Htok]; · iexact Htok
  iexact HL

omit [FloatOps F] in
theorem to_each {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem shared_intro (K : Dev nD × Cell → ℕ) (c : Dev nD) : iprop(shared m K ∗ linear c) ⊢ G' m c := by
  unfold G'
  iintro H
  iexists K
  iexact H

omit [FloatOps F] in
theorem regroup :
    (bigSep Finset.univ fun c : Dev nD => iprop((bigSep Finset.univ fun k : Cell => iprop(∃ κ : ℕ, cellInv ER (sched m) κ (kcell (c, k))))
          ∗ (bigSep Finset.univ fun k : Cell => reached ER (kcell (c, k)) 0)
          ∗ (bigSep Finset.univ fun k : Cell => atPos ER (kcell (c, k)) 0 ∅ 0) ∗ toks c ∗ localSems c) : sProp 𝕄)
      ⊢ bigSep Finset.univ (G' m) := by
  rw [bigSep_sep', bigSep_sep', bigSep_sep', bigSep_sep', toks_around, ← bigSep_univ_prod (fun ck : Dev nD × Cell => iprop(∃ κ : ℕ, cellInv ER (sched m) κ (kcell ck))),
    ← bigSep_univ_prod (fun ck : Dev nD × Cell => (reached ER (kcell ck) 0 : sProp 𝕄)), ← bigSep_sep', ← bigSep_sep']
  iintro ⟨HI, #HR, Hl⟩
  ihave HK := (BI.bigSep_exists_pi Finset.univ (fun (ck : Dev nD × Cell) (κ : ℕ) => (cellInv ER (sched m) κ (kcell ck) : sProp 𝕄))) $$ HI
  icases HK with ⟨%K, #HI⟩
  iapply (to_each (R := shared m K) fun c _ => shared_intro m K c)
  isplitr
  · unfold shared; isplitl; · iexact HI
    iexact HR
  · unfold linear
    iexact Hl

omit [FloatOps F] in
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The credits -/

/-- What is owed to device `c`'s cells: four signals, and each transfer it receives. -/
def owedTo (c : Dev nD) : CellTallies nD τ sig Unit := tallyAt (barCell c) () 4 + ∑ t : Xfer, tallyAt (rCell c t) () N

theorem due_sum (c : Dev nD) : ∀ os : List Op, due c os = (os.map (Op.tally c)).sum
  | [] => rfl
  | o :: os => by rw [due, due_sum c os, List.map_cons, List.sum_cons, add_comm]

/-- The steps that pay nothing do not count. -/
theorem sum_pays (c : Dev nD) : ∀ os : List Op, (os.map (Op.tally c)).sum = ((os.filter fun o => o.pays.isSome).map (Op.tally c)).sum
  | [] => rfl
  | o :: os => by
    rw [List.map_cons, List.sum_cons, sum_pays c os]
    by_cases h : o.pays.isSome = true
    · rw [List.filter_cons_of_pos (p := fun o : Op => o.pays.isSome) h, List.map_cons, List.sum_cons]
    · rw [List.filter_cons_of_neg (p := fun o : Op => o.pays.isSome) h]
      have : o.tally c = 0 := by cases o <;> first | rfl | exact absurd rfl h
      rw [this, zero_add]

theorem paying : (steps.filter fun o => o.pays.isSome).Perm (four.map .signal ++ sends.map .send) := by decide +kernel

theorem due_steps (c : Dev nD) : due c steps = ∑ i : Fin 4, tallyAt (barCell (sigTo c i)) () 1 + ∑ t : Xfer, tallyAt (rCell (t.to c) t) () N := by
  rw [due_sum, sum_pays, (paying.map _).sum_eq, List.map_append, List.sum_append, List.map_map, List.map_map, univ_four, univ_sends,
    List.sum_toFinset _ (by decide), List.sum_toFinset _ sends_nodup]
  rfl

theorem due_all : ∑ c : Dev nD, due c steps = ∑ c : Dev nD, owedTo c := by
  unfold owedTo
  rw [Finset.sum_congr rfl fun c _ => due_steps c, Finset.sum_add_distrib, Finset.sum_add_distrib, Finset.sum_comm, Finset.sum_comm (f := fun (c : Dev nD) (t : Xfer) => tallyAt (rCell (t.to c) t) () N),
    Finset.sum_comm (f := fun (c : Dev nD) (t : Xfer) => tallyAt (rCell c t) () N)]
  congr 1
  · refine (Finset.sum_congr rfl fun i _ => Equiv.sum_comp (sigEquiv i) fun c => (tallyAt (barCell c) () 1 : CellTallies nD τ sig Unit)).trans ?_
    rw [Finset.sum_comm]
    refine Finset.sum_congr rfl fun c _ => ?_
    rw [Fin.sum_univ_four, tallyAt_add, tallyAt_add, tallyAt_add]
  · exact Finset.sum_congr rfl fun t _ => Equiv.sum_comp (toEquiv t) fun c => (tallyAt (rCell c t) () N : CellTallies nD τ sig Unit)

theorem owedTo_own (c : Dev nD) (g : GSem nD τ sig) (h : owedTo c g ≠ 0) : g.1 = (c.tc : Thread nD τ) := by
  by_contra hne
  refine h ?_
  unfold owedTo
  rw [Pi.add_apply, Finset.sum_apply, tallyAt_ne_cell (fun e => hne (by rw [e])), zero_add]
  exact Finset.sum_eq_zero fun t _ => tallyAt_ne_cell (fun e => hne (by rw [e])) _ _

omit [FloatOps F] in
theorem cred_sum {I : Type} [DecidableEq I] (S : Finset I) (T : I → CellTallies nD τ sig Unit) :
    (cred (∑ i ∈ S, T i) : sProp 𝕄) = bigSep S fun i => cred (T i) := by
  induction S using Finset.induction_on with
  | empty => rw [Finset.sum_empty, cred_zero]; rfl
  | insert a S ha ih =>
    have h := cred_add (Val := Elt F) (Name := ℕ) (U := UU) (Lvl := ℕ) (T a) (∑ i ∈ S, T i)
    rw [Finset.sum_insert ha, bigSep_insert ha, Entails.antisymm h.1 h.2, ih]
    rfl

omit [FloatOps F] in
theorem creds (c : Dev nD) : (Pipeline.launchCred (fun c => due c steps) c : sProp 𝕄)
    = iprop(cred (tallyAt (barCell c) () 4) ∗ bigSep Finset.univ fun t : Xfer => cred (tallyAt (rCell c t) () N)) := by
  rw [Pipeline.launchCred_of_sum _ owedTo due_all owedTo_own c]
  have h := cred_add (Val := Elt F) (Name := ℕ) (U := UU) (Lvl := ℕ) (tallyAt (barCell c) () 4) (∑ t : Xfer, tallyAt (rCell c t) () N)
  unfold owedTo
  rw [Entails.antisymm h.1 h.2, cred_sum]

end Cert.Gather
-- ==== Proof.Launch.lean ====
/-
  The run of the whole mesh.

  The launch's deal and a device's buffers are the resources the steps start from (`start_intro`), the steps run
  (Exec.lean), and what they end with is the device's buffers again, the argument as it was and the result as it is to
  be, and every counter at zero (`finish_elim`).
-/
module

public import proofs.«01_k».proof.Proof.Deal
public import proofs.«01_k».proof.Proof.Gen.KernelIdeal.Points
public import Idealize.ShloMosaic.Lib.Pipeline.CollectiveSegs

@[expose] public section

noncomputable section

namespace Cert.Gather

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline
open Idealize.ShloMosaic.Rounds
open Idealize.ShloMosaic.ShareLeaves (leaf)

variable {F : FTy → Type} [FloatOps F]

local notation "𝕄" => MT nD τ sig Unit (Elt F) ℕ UU ℕ

variable (m : (ℓ : Loc nD τ sig) → Buf (Elt F) ℓ) (ρ : Dev nD → PrngReg)

/-! ## Before the body and after it -/

/-- The argument and the result buffer, whole. -/
def bufs (c : Dev nD) (f : Buf (Elt F) ((c : Thread nD τ).loc main_v1)) : sProp 𝕄 :=
  iprop(((c : Thread nD τ).loc main_arg0 ↦{fullShare} m ((c : Thread nD τ).loc main_arg0)) ∗ ((c : Thread nD τ).loc main_v1 ↦{fullShare} f))

/-- What a device brings to the body besides its scratch: its part of the deal, the levels, its credits and its buffers. -/
def given (c : Dev nD) : sProp 𝕄 :=
  iprop(G' m c ∗ levAts L lv ∗ (cred (tallyAt (barCell c) () 4) ∗ bigSep Finset.univ fun t : Xfer => cred (tallyAt (rCell c t) () N))
    ∗ bufs m c (m ((c : Thread nD τ).loc main_v1)))

def Φ₀ (c : Dev nD) : sProp 𝕄 :=
  iprop(given m c ∗ Pipeline.scopedRest (Ix := Unit) (Name := ℕ) (U := UU) (Lvl := ℕ) (Val := Elt F) cfg0.spec c)
def Φ₁ (c : Dev nD) : sProp 𝕄 := iprop(argRest m c ∗ holds m c finish)

omit [FloatOps F] in
theorem start_intro (c : Dev nD) : Φ₀ m c ⊢ (iprop(∃ K : Dev nD × Cell → ℕ, records m K ∗ argRest m c ∗ holds m c start) : sProp 𝕄) := by
  unfold Φ₀ given G' shared linear payToks localSems bufs
  rw [scratch_open m c, arg_eq, out_eq, bigSep_cell]
  iintro ⟨⟨⟨%K, ⟨HI, HR⟩, ⟨HaB, HaS, HaR⟩, ⟨HtB, HtS, HtR⟩, HsI, HsO⟩, HL, ⟨HcB, HcR⟩, ⟨Hp, Hg, Hrest⟩, Ho, Hout⟩, Hlend, Hbare⟩
  iexists K
  isplitl [HI HR HL]
  · unfold records
    isplitl [HI]; · iexact HI
    isplitl [HR]; · iexact HR
    iexact HL
  isplitl [Hrest]; · iexact Hrest
  unfold start
  simp only [holds_append, holds_one, holds_sends, holds_five, holds_sixteen]
  rw [holds_four m c .toSig, holds_four m c .arg]
  simp only [Res.own, bigSep_sep']
  isplitr [Ho]
  · isplitr [Hout]
    · isplitr [HsO]
      · isplitr [HsI]
        · isplitr [Hp]
          · isplitr [Hg]
            · isplitr [Hbare]
              · isplitr [Hlend]
                · isplitr [HcB HaB]
                  · isplitr [HtB]
                    · isplitr [HcR HaR]
                      · isplitl [HtS]; · iexact HtS
                        isplitl [HtR]; · iexact HtR
                        iexact HaS
                      · isplitl [HcR]; · iexact HcR
                        iexact HaR
                    · iexact HtB
                  · isplitl [HcB]; · iexact HcB
                    iexact HaB
                · iexact Hlend
              · iexact Hbare
            · iexact Hg
          · iexact Hp
        · iexact HsI
      · iexact HsO
    · iexact Hout
  · iexact Ho

omit [FloatOps F] in
theorem finish_elim (c : Dev nD) :
    Φ₁ m c ⊢ (iprop((unscopedSems0 c ∗ bufs m c (OUT m c))
      ∗ Pipeline.ownSems0 (Ix := Unit) (Name := ℕ) (U := UU) (Lvl := ℕ) (Val := Elt F) (τ := τ) osem c
      ∗ Pipeline.scopedRest (Ix := Unit) (Name := ℕ) (U := UU) (Lvl := ℕ) (Val := Elt F) cfg0.spec c) : sProp 𝕄) := by
  unfold Φ₁ bufs finish
  rw [ownSems0_eq, unscopedSems0_eq, arg_eq, out_eq]
  unfold localSems
  simp only [holds_append, holds_one, holds_sends, holds_five, holds_sixteen]
  rw [holds_four m c .arg]
  simp only [Res.own]
  iintro ⟨Hrest, ⟨⟨⟨⟨⟨⟨⟨⟨⟨Hs, Hg⟩, Hp⟩, HsI⟩, HsO⟩, Hout⟩, Ho⟩, HzS⟩, HzR⟩, HzB⟩⟩
  isplitl [Hrest Hg Hp Hout Ho HzB]
  · isplitl [HzB]; · iexact HzB
    isplitl [Hrest Hg Hp]
    · isplitl [Hp]; · iexact Hp
      isplitl [Hg]; · iexact Hg
      iexact Hrest
    isplitl [Ho]; · iexact Ho
    iexact Hout
  isplitr [Hs]
  · isplitl [HzS HzR]
    · isplitl [HzS]; · iexact HzS
      iexact HzR
    isplitl [HsI]; · iexact HsI
    iexact HsO
  · iapply (scratch_close m c)
    iexact Hs

/-! ## The region -/

/-- The region has no window: its one point is the body. -/
def dats (_ : Fin 1) (c : Dev nD) : Dat τ (Elt F) Unit ℕ UU ℕ cfg0 c where
  A w := w.elim0
  after w := w.elim0
  Φ t := match t with
    | ⟨0, _⟩ => Φ₀ m c
    | ⟨_ + 1, _⟩ => Φ₁ m c
  q w := w.elim0
  owed t := match t with
    | ⟨0, _⟩ => due c steps
    | ⟨_ + 1, _⟩ => due c []

omit [FloatOps F] in
theorem no_window (Φ : Fin cfg0.W → sProp 𝕄) : bigSep Finset.univ Φ = iprop(emp) := bigSep_univ_eq_bigSepL [] rfl List.nodup_nil Φ

theorem run_body (c : Dev nD) (Ψ : PUnit → sProp 𝕄) :
    iprop(Φ₀ m c ∗ owing c steps)
      ⊢ iprop((iprop(Φ₁ m c ∗ owing c []) -∗ Ψ ⟨⟩) -∗ wp frame (wpE (defs₀ (F := F)) 𝒱₀ (c : Thread nD τ) none) Set.univ (body (F := F)) Ψ) := by
  rw [body_eq]
  simp only [Prog.lift, Prog.bind_op, Prog.bind_ret]
  iintro ⟨HΦ, HO⟩ Hk
  ihave H := (start_intro m c) $$ HΦ
  icases H with ⟨%K, HR, Hrest, Hs⟩
  rw [wp_deviceId]
  iapply (steps_run m K c Ψ) $$ [HR Hs HO]
  · isplitl [HR]; · iexact HR
    isplitl [Hs]; · iexact Hs
    iexact HO
  iintro ⟨Hf, HO⟩
  iapply Hk
  isplitr [HO]
  · unfold Φ₁
    isplitl [Hrest]; · iexact Hrest
    iexact Hf
  · iexact HO

set_option maxRecDepth 20000 in
theorem body_obligation (c : Dev nD) : BodyObligation (dats (F := F) m 0 c) (defs₀ (F := F)) 𝒱₀ () Set.univ := fun t => by
  rw [fin_N0 t, no_window, no_window]
  show iprop(Φ₀ m c ∗ (dats m 0 c).owesAt () t0_0.castSucc ∗ emp)
    ⊢ wp frame (wpE (defs₀ (F := F)) 𝒱₀ (c : Thread nD τ) none) Set.univ (body (F := F)) (fun _ => iprop(Φ₁ m c ∗ (dats m 0 c).owesAt () t0_0.succ ∗ emp))
  unfold Dat.owesAt Pipeline.owesWithin
  iintro ⟨HΦ, ⟨%W, %hW, HO⟩, -⟩
  iapply (run_body m c _) $$ [HΦ HO]
  · isplitl [HΦ]; · iexact HΦ
    unfold owing
    iexists W
    iexact HO
  unfold owing
  iintro ⟨HΦ, ⟨%W', HO⟩⟩
  isplitl [HΦ]; · iexact HΦ
  isplitl [HO]
  · iexists W'
    isplitr; · ipureintro; exact fun _ _ => Or.inl trivial
    iexact HO
  · iempintro

/-! ## The theorem -/

/-- Device `c`'s argument is as it was, and its result as it is to be. -/
def Done (c : Dev nD) (s : MemSt nD τ sig (Elt F)) : Prop :=
  s.mem ((c : Thread nD τ).loc main_v1) = OUT m c ∧ s.mem ((c : Thread nD τ).loc main_arg0) = m ((c : Thread nD τ).loc main_arg0)

omit [FloatOps F] in
theorem read_done (c : Dev nD) (s' : Phys nD τ sig (Elt F)) :
    iprop((unscopedSems0 c ∗ bufs m c (OUT m c)) ∗ emp ∗ SI s')
      ⊢ (|={Set.univ}=> iprop(⌜Done m c s'.mem ∧ ∀ sm : SemLoc sig, sm.isScoped .tc = false → s'.mem.sem ((c.tc : Thread nD τ), sm) = 0⌝ ∗ SI s') : sProp 𝕄) := by
  unfold bufs
  iintro ⟨⟨Hu, Ha, Hv⟩, -, HSI⟩
  icombine Ha HSI gives %ha
  icombine Hv HSI gives %hv
  imod (Pipeline.unscopedSems0_read (X := unscopedSems0 c) (c := c) fupd_intro s') $$ [Hu HSI] with ⟨%hu, HSI⟩
  · isplitl [Hu] <;> iassumption
  imodintro
  isplitr
  · ipureintro
    exact ⟨⟨funext fun i => hv i (Finset.mem_univ _), funext fun i => ha i (Finset.mem_univ _)⟩, hu⟩
  iexact HSI

omit [FloatOps F] in
theorem given_intro (c : Dev nD) :
    iprop(Pipeline.unscopedRestP Pipeline.Prefetch.none cfg0.spec c (fun b => m ((c : Thread nD τ).loc b)) ∗ levAts L lv
        ∗ Pipeline.launchCred (fun c => due c steps) c ∗ prngReg c (ρ c) ∗ G' m c)
      ⊢ (|={Set.univ}=> iprop(given m c ∗ emp) : sProp 𝕄) := by
  rw [Pipeline.unscopedRestP_none, unscopedRest0_eq, creds]
  iintro ⟨Hb, Hlev, Hcr, -, HG⟩
  imodintro
  unfold given bufs
  isplitl
  · isplitl [HG]; · iexact HG
    isplitl [Hlev]; · iexact Hlev
    isplitl [Hcr]; · iexact Hcr
    iexact Hb
  · iempintro

set_option maxRecDepth 20000 in
/-- For any float values and from any memory with zero counters: every fair run of the sixteen devices ends, with each
    device's argument as it was, its result as it is to be, and every counter at zero. -/
theorem run_main : θ_run defs (onTc (τ := τ) (main (F := F))) (s₀ m ρ) (fun r => (∀ c : Dev nD, Done m c r.2) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := fun c => due c steps) (howed₀ := fun _ => rfl) (howedN := fun _ => rfl)
    (L := L) (lv := lv) (hL := L_of_ne) (hwaits := fun c => Pipeline.cellsWaits_intro cfgs (dats m) () 0 c fun w => w.elim0)
    (G := G m) (G' := G' m) (u₀ := u₀)
    (hu₀ := by
      unfold u₀
      iintro Hu
      ihave H := (ownU_pair _ _) $$ Hu
      icases H with ⟨HP, HX⟩
      ihave H := (own_pair_emb _ _ _) $$ HX
      icases H with ⟨HX, -⟩
      imod (show BI.own (((Emb.inl : Emb UB (UB × Counters)).trans embR) (initOf allCells allToks)) ⊢ (|==> bigSep Finset.univ (G m) : sProp 𝕄) from fund_sched m) $$ HX with HG
      imodintro
      isplitl [HP] <;> iassumption)
    (hglob := glob m)
    (hA := fun _ w => w.elim0) (hpf := fun _ k => k.elim0)
    (X := given m) (Y := fun c => iprop(unscopedSems0 c ∗ bufs m c (OUT m c))) (Z := fun _ => iprop(emp))
    (hX := given_intro m ρ)
    (hin := fun c => by
      show iprop(given m c ∗ Pipeline.prefHeld Pipeline.Prefetch.none c (fun _ => fullShare.right) (fun k => k.elim0) ∗ Pipeline.scopedRest cfg0.spec c) ⊢ Φ₀ m c
      unfold Φ₀
      iintro ⟨Hs, -, Hr⟩
      isplitl [Hs]; · iexact Hs
      iexact Hr)
    (hout := fun c => finish_elim m c)
    (QY := fun c s => Done m c s ∧ ∀ sm : SemLoc sig, sm.isScoped .tc = false → s.sem ((c.tc : Thread nD τ), sm) = 0)
    (hY := read_done m)
    (hQ := fun _ h hs => ⟨fun c => (h c).2.2.1, sem_eq_zero hs fun c => (h c).2.2.2⟩)

end Cert.Gather
-- ==== Proof.Value.lean ====
/-
  The result is the whole array.

  The devices hold the four planes of one array, each plane on the devices of that number on the ring. Row `i` of a
  result is taken from a device holding the plane `i` lies in, at `i`'s row of that plane, so it is row `i` of the array.
  The reference returns its argument.
-/
module

public import proofs.«01_k».proof.Proof.Launch
public import proofs.«01_k».proof.Proof.Gen.ReferenceIdeal
public import Idealize.ShloMosaic.Lib.Layout
public import Idealize.ShloMosaic.Lib.StableHlo.Run
public import Idealize.ShloMosaic.Lib.Quiescent

@[expose] public section

noncomputable section

namespace Cert.Gather

open Idealize.ShloMosaic
open Idealize.ShloMosaic.TcCoe
open Idealize.SL.Sem

variable {F : FTy → Type} [FloatOps F]

/-! ## The kernel's result -/

section Kernel
open Cert.KernelIdeal Cert.KernelIdeal.Gen

theorem plane_of : ∀ c : Dev nD, ((Layout.meshBlock [2, 2, 4] ![[2], []] c) (0 : Fin 2)).val = c.val % 4 := by decide +kernel
theorem all_columns : ∀ c : Dev nD, ((Layout.meshBlock [2, 2, 4] ![[2], []] c) (1 : Fin 2)).val = 0 := by decide +kernel

/-- A row's source holds the plane the row lies in. -/
theorem srcDev_plane (c : Dev nD) {i : ℕ} (hi : i < 16384) : (srcDev c i).val % 4 = i / 4096 := by
  unfold srcDev
  split
  · omega
  · show (8 * (i % 4096 / 2048) + 4 * (i % 2048 / 1024) + i / 4096) % 16 % 4 = i / 4096
    omega

omit [FloatOps F] in
theorem OUT_whole (m : (ℓ : Loc nD τ sig) → Buf (Elt F) ℓ) (w : S16384x1024.Idx → Elt F .bf16)
    (h : ∀ c : Dev nD, m ((c : Thread nD τ).loc main_arg0)
      = Layout.blockN ⟨2, ![4096, 1024]⟩ ⟨2, ![16384, 1024]⟩ (Layout.meshBlock [2, 2, 4] ![[2], []] c) w) (c : Dev nD) : OUT m c = w := by
  funext i
  have hi : (i 0).val < 16384 := (i 0).isLt
  have hp := srcDev_plane c hi
  unfold OUT
  refine (congrFun (h (srcDev c (i 0).val)) (argRow i)).trans (congrArg w (funext fun a => Fin.ext ?_))
  match a with
  | ⟨0, _⟩ =>
    show ((Layout.meshBlock [2, 2, 4] ![[2], []] (srcDev c (i 0).val)) (0 : Fin 2)).val * 4096 + (i 0).val % 4096 = (i 0).val
    rw [plane_of, hp]
    omega
  | ⟨1, _⟩ =>
    show ((Layout.meshBlock [2, 2, 4] ![[2], []] (srcDev c (i 0).val)) (1 : Fin 2)).val * 1024 + (i 1).val = (i 1).val
    rw [all_columns]
    omega

end Kernel

/-! ## The reference -/

namespace Reference
open Cert.ReferenceIdeal Cert.ReferenceIdeal.Gen

/-- The reference makes no operation: its argument is its result, and stays as it was. -/
theorem run (m : (ℓ : Loc nD τ sig) → Buf (Elt F) ℓ) (ρ : Dev nD → PrngReg) :
    θ_run (defs (F := F)) (onTc (τ := τ) (main (F := F))) ⟨m, fun _ => 0, ρ⟩
      (fun r => (∀ c : Dev nD, r.2.mem ((c.tc : Thread nD τ).loc main_arg0) = m ((c.tc : Thread nD τ).loc main_arg0)) ∧ r.2.sem = fun _ => 0) :=
  (θ_run defs _ _).mono (fun r h => ⟨fun c => h c main_arg0, sem_eq_zero_of_no_sems (by decide) r.2⟩)
    (StableHlo.run_seq (by decide) (by decide) defs main (fun _ => []) (fun _ => rfl) (fun _ => trivial) m ρ)

end Reference

end Cert.Gather
-- ==== Proof.lean ====
/-
  The certificate: the five claims about the gather of sixteen devices.

  `run_main` (Proof/Launch.lean) is the run of the mesh at any float values: it is both frames, and with `OUT_whole`
  (Proof/Value.lean) the value of every device's result.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Value

@[expose] public section

noncomputable section

namespace Cert.Proof

open Idealize.ShloMosaic Idealize.SL.Sem Cert.Gather

/-- The kernel as it is compiled: it runs, leaves its argument, and ends with every counter at zero. -/
theorem frame_kernel : Cert.quiescent_Kernel := fun m ρ _ =>
  (θ_run Cert.KernelIdeal.defs _ _).mono (fun _ h => ⟨fun c => (h.1 c).2, h.2⟩) (run_main (F := Bits) m ρ)

/-- The same of its reading over the reals, -/
theorem frame_ideal : Cert.quiescent_KernelIdeal := fun m ρ _ =>
  (θ_run Cert.KernelIdeal.defs _ _).mono (fun _ h => ⟨fun c => (h.1 c).2, h.2⟩) (run_main (F := Ideal) m ρ)

/-- and of the reference. -/
theorem frame_reference : Cert.quiescent_ReferenceIdeal := fun m ρ _ => Reference.run (F := Ideal) m ρ

/-- Every device's result is the reference's: the whole array the devices hold the planes of. -/
theorem algebraic : Cert.algebraic_KernelIdeal_ReferenceIdeal := fun m ρ m' ρ' _ hagree =>
  ⟨m' _, (θ_run Cert.KernelIdeal.defs _ _).mono
      (fun _ h c => ⟨(h.1 c).1.trans (OUT_whole m _ hagree c), (h.1 c).2⟩) (run_main (F := Ideal) m ρ),
    (θ_run Cert.ReferenceIdeal.defs _ _).mono (fun _ h => ⟨h.1 0, h.1 0⟩) (Reference.run (F := Ideal) m' ρ')⟩

theorem claim : Cert.Claim := ⟨Cert.Kernel.Gen.facts, Cert.KernelIdeal.Gen.facts, Cert.ReferenceIdeal.Gen.facts,
  frame_kernel, frame_ideal, frame_reference, trivial, algebraic⟩

end Cert.Proof

end
